-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3072x8192 : Shape := ⟨3, ![8, 3072, 8192]⟩
abbrev S576x8192 : Shape := ⟨2, ![576, 8192]⟩
abbrev S5x64 : Shape := ⟨2, ![5, 64]⟩
abbrev S512 : Shape := ⟨1, ![512]⟩
abbrev S_ : Shape := ⟨0, ![]⟩

class Facts : Prop where
  bcast_S_S8x3072x8192 : S_.BroadcastsInDim S8x3072x8192 (![] : Fin 0 → Fin S8x3072x8192.rank)
  bcast_S_S512 : S_.BroadcastsInDim S512 (![] : Fin 0 → Fin S512.rank)

variable [Facts]

def fn {F : FTy → Type} [FloatOps F] (main_arg0 : FVec F S8x3072x8192 .bf16) (main_arg1 : FVec F S576x8192 .fp8e4m3) (main_arg2 : FVec F S5x64 .f32) (main_arg3 : FVec F S512 .bf16) : IVec S8x3072x8192 1 × IVec S512 1 :=
  let main_v0 : FVec F S8x3072x8192 .bf16 := Host.absf main_arg0
  let main_cst : FVec F S_ .bf16 := constant S_ .bf16 0x7F7F#16
  let main_v1 : FVec F S8x3072x8192 .bf16 := broadcastInDim S8x3072x8192 ![] bcast_S_S8x3072x8192 main_cst
  let main_v2 : IVec S8x3072x8192 1 := cmpf .ole main_v0 main_v1
  let main_v3 : FVec F S512 .bf16 := Host.absf main_arg3
  let main_cst_0 : FVec F S_ .bf16 := constant S_ .bf16 0x7F7F#16
  let main_v4 : FVec F S512 .bf16 := broadcastInDim S512 ![] bcast_S_S512 main_cst_0
  let main_v5 : IVec S512 1 := cmpf .ole main_v3 main_v4
  (main_v2, main_v5)
-- ==== Kernel.lean ====
abbrev S8x3072x8192 : Shape := ⟨3, ![8, 3072, 8192]⟩
abbrev S576x8192 : Shape := ⟨2, ![576, 8192]⟩
abbrev S5x64 : Shape := ⟨2, ![5, 64]⟩
abbrev S512 : Shape := ⟨1, ![512]⟩
abbrev S24576x8192 : Shape := ⟨2, ![24576, 8192]⟩
abbrev S512x1 : Shape := ⟨2, ![512, 1]⟩
abbrev S24576x512 : Shape := ⟨2, ![24576, 512]⟩
abbrev S24576x4 : Shape := ⟨2, ![24576, 4]⟩
abbrev S24576x64 : Shape := ⟨2, ![24576, 64]⟩
abbrev S256x8192 : Shape := ⟨2, ![256, 8192]⟩
abbrev S256x512 : Shape := ⟨2, ![256, 512]⟩
abbrev S256x4 : Shape := ⟨2, ![256, 4]⟩
abbrev S256x64 : Shape := ⟨2, ![256, 64]⟩
abbrev S1x1 : Shape := ⟨2, ![1, 1]⟩
abbrev S128x128 : Shape := ⟨2, ![128, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S256x255 : Shape := ⟨2, ![256, 255]⟩
abbrev S576x256 : Shape := ⟨2, ![576, 256]⟩
abbrev S512x256 : Shape := ⟨2, ![512, 256]⟩
abbrev S64x256 : Shape := ⟨2, ![64, 256]⟩
abbrev S1x256 : Shape := ⟨2, ![1, 256]⟩
abbrev S128x256 : Shape := ⟨2, ![128, 256]⟩
abbrev S255x256 : Shape := ⟨2, ![255, 256]⟩
abbrev S4x256 : Shape := ⟨2, ![4, 256]⟩
abbrev S8x256 : Shape := ⟨2, ![8, 256]⟩
abbrev S256x8 : Shape := ⟨2, ![256, 8]⟩

abbrev nBuf : Space → Nat
  | .hbm => 11
  | .vmem => 16
  | .smem => 1
  | _ => 0

abbrev bufTy : (tb : Table) → Fin (tcTables nBuf tb) → BufTy
  | .hbm, ⟨0, _⟩ => ⟨S8x3072x8192, .bf16⟩
  | .hbm, ⟨1, _⟩ => ⟨S576x8192, .fp8e4m3⟩
  | .hbm, ⟨2, _⟩ => ⟨S5x64, .f32⟩
  | .hbm, ⟨3, _⟩ => ⟨S512, .bf16⟩
  | .hbm, ⟨4, _⟩ => ⟨S24576x8192, .bf16⟩
  | .hbm, ⟨5, _⟩ => ⟨S512x1, .bf16⟩
  | .hbm, ⟨6, _⟩ => ⟨S24576x512, .fp8e4m3⟩
  | .hbm, ⟨7, _⟩ => ⟨S24576x4, .f32⟩
  | .hbm, ⟨8, _⟩ => ⟨S24576x64, .bf16⟩
  | .hbm, ⟨9, _⟩ => ⟨S24576x8192, .fp8e4m3⟩
  | .hbm, ⟨10, _⟩ => ⟨S24576x64, .f32⟩
  | .local _ .vmem, ⟨0, _⟩ => ⟨S256x8192, .bf16⟩
  | .local _ .vmem, ⟨1, _⟩ => ⟨S256x8192, .bf16⟩
  | .local _ .vmem, ⟨2, _⟩ => ⟨S576x8192, .fp8e4m3⟩
  | .local _ .vmem, ⟨3, _⟩ => ⟨S512x1, .bf16⟩
  | .local _ .vmem, ⟨4, _⟩ => ⟨S256x512, .fp8e4m3⟩
  | .local _ .vmem, ⟨5, _⟩ => ⟨S256x512, .fp8e4m3⟩
  | .local _ .vmem, ⟨6, _⟩ => ⟨S256x4, .f32⟩
  | .local _ .vmem, ⟨7, _⟩ => ⟨S256x4, .f32⟩
  | .local _ .vmem, ⟨8, _⟩ => ⟨S256x64, .bf16⟩
  | .local _ .vmem, ⟨9, _⟩ => ⟨S256x64, .bf16⟩
  | .local _ .vmem, ⟨10, _⟩ => ⟨S256x8192, .fp8e4m3⟩
  | .local _ .vmem, ⟨11, _⟩ => ⟨S256x8192, .fp8e4m3⟩
  | .local _ .vmem, ⟨12, _⟩ => ⟨S256x64, .f32⟩
  | .local _ .vmem, ⟨13, _⟩ => ⟨S256x64, .f32⟩
  | .local _ .vmem, ⟨14, _⟩ => ⟨S576x8192, .bf16⟩
  | .local _ .vmem, ⟨15, _⟩ => ⟨S256x8192, .bf16⟩
  | .local _ .smem, ⟨0, _⟩ => ⟨S5x64, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x3072x8192 : Shape := ⟨3, ![8, 3072, 8192]⟩
abbrev S576x8192 : Shape := ⟨2, ![576, 8192]⟩
abbrev S5x64 : Shape := ⟨2, ![5, 64]⟩
abbrev S512 : Shape := ⟨1, ![512]⟩
abbrev S24576x8192 : Shape := ⟨2, ![24576, 8192]⟩
abbrev S1x512 : Shape := ⟨2, ![1, 512]⟩
abbrev S24576x512 : Shape := ⟨2, ![24576, 512]⟩
abbrev S24576x4 : Shape := ⟨2, ![24576, 4]⟩
abbrev S24576x64 : Shape := ⟨2, ![24576, 64]⟩
abbrev S24576x64x128 : Shape := ⟨3, ![24576, 64, 128]⟩
abbrev S24576x64x1 : Shape := ⟨3, ![24576, 64, 1]⟩
abbrev S5x1x64 : Shape := ⟨3, ![5, 1, 64]⟩
abbrev S5x128x64 : Shape := ⟨3, ![5, 128, 64]⟩
abbrev S640x64 : Shape := ⟨2, ![640, 64]⟩
abbrev S640x64x1 : Shape := ⟨3, ![640, 64, 1]⟩
abbrev S640x64x128 : Shape := ⟨3, ![640, 64, 128]⟩
abbrev S640x8192 : Shape := ⟨2, ![640, 8192]⟩
abbrev S512x8192 : Shape := ⟨2, ![512, 8192]⟩
abbrev S64x8192 : Shape := ⟨2, ![64, 8192]⟩
abbrev S24576 : Shape := ⟨1, ![24576]⟩
abbrev S24576x1 : Shape := ⟨2, ![24576, 1]⟩
abbrev S24576x4x128 : Shape := ⟨3, ![24576, 4, 128]⟩
abbrev S24576x4x1 : Shape := ⟨3, ![24576, 4, 1]⟩

abbrev nBuf : Space → Nat
  | .hbm => 11
  | .vmem => 9
  | .smem => 0
  | _ => 0

abbrev bufTy : (tb : Table) → Fin (tcTables nBuf tb) → BufTy
  | .hbm, ⟨0, _⟩ => ⟨S8x3072x8192, .bf16⟩
  | .hbm, ⟨1, _⟩ => ⟨S576x8192, .fp8e4m3⟩
  | .hbm, ⟨2, _⟩ => ⟨S5x64, .f32⟩
  | .hbm, ⟨3, _⟩ => ⟨S512, .bf16⟩
  | .hbm, ⟨4, _⟩ => ⟨S24576x8192, .bf16⟩
  | .hbm, ⟨5, _⟩ => ⟨S1x512, .bf16⟩
  | .hbm, ⟨6, _⟩ => ⟨S24576x512, .fp8e4m3⟩
  | .hbm, ⟨7, _⟩ => ⟨S24576x4, .f32⟩
  | .hbm, ⟨8, _⟩ => ⟨S24576x64, .bf16⟩
  | .hbm, ⟨9, _⟩ => ⟨S24576x8192, .fp8e4m3⟩
  | .hbm, ⟨10, _⟩ => ⟨S24576x64, .f32⟩
  | .local _ .vmem, ⟨0, _⟩ => ⟨S24576x8192, .bf16⟩
  | .local _ .vmem, ⟨1, _⟩ => ⟨S576x8192, .fp8e4m3⟩
  | .local _ .vmem, ⟨2, _⟩ => ⟨S5x64, .f32⟩
  | .local _ .vmem, ⟨3, _⟩ => ⟨S1x512, .bf16⟩
  | .local _ .vmem, ⟨4, _⟩ => ⟨S24576x512, .fp8e4m3⟩
  | .local _ .vmem, ⟨5, _⟩ => ⟨S24576x4, .f32⟩
  | .local _ .vmem, ⟨6, _⟩ => ⟨S24576x64, .bf16⟩
  | .local _ .vmem, ⟨7, _⟩ => ⟨S24576x8192, .fp8e4m3⟩
  | .local _ .vmem, ⟨8, _⟩ => ⟨S24576x64, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24576x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Tiles.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

/-- A group's largest magnitude over 448, per row. -/
def gy (v : Vec F S256x128 .bf16) : FVec F S256x1 .f32 :=
  mulf (extf .f32 (shapeCast S256x1 (multiReduction .maximumf [1] S256 (absf (shapeCast S256x128 v shapeCasts_S256x128_S256x128)) 0xFF80#16 reduces_S256x128_S256 (.inr rfl) rfl) shapeCasts_S256_S256x1) bitsLt_bf16_f32)
    (broadcast S256x1 (Scalar.ofBits .f32 0x3B124925#32))

/-- The count of powers of two a row's magnitude reaches. -/
def gcount (y : FVec F S256x1 .f32) : IVec S256x1 32 :=
  shapeCast S256x1 (multiReductionI .add [1] S256 (extui 32 (cmpf .oge (broadcastTo S256x255 y broadcasts_S256x1_S256x255)
    (bitcastToFloat .f32 (shli (addi (iota .tc S256x255 32 [1] iota_S256x255_d1_w32) (broadcast S256x255 1#32)) (broadcast S256x255 23#32)))) natLt_1_32)
    0#32 reduces_S256x255_S256 rfl) shapeCasts_S256_S256x1

/-- The exponent word. -/
def gexp (y : FVec F S256x1 .f32) : IVec S256x1 32 :=
  select (cmpi .eq (gcount y) (broadcast S256x1 0#32)) (broadcast S256x1 0#32) (subi (gcount y) (broadcast S256x1 126#32))

/-- The scale. -/
def gscale (y : FVec F S256x1 .f32) : FVec F S256x1 .f32 :=
  bitcastToFloat .f32 (shli (addi (broadcast S256x1 127#32) (gexp y)) (broadcast S256x1 23#32))

/-- The inverse scale. -/
def ginv (y : FVec F S256x1 .f32) : FVec F S256x1 .f32 :=
  bitcastToFloat .f32 (shli (subi (broadcast S256x1 127#32) (gexp y)) (broadcast S256x1 23#32))

/-- A group's codes. -/
def gcode (v : Vec F S256x128 .bf16) : FVec F S256x128 .fp8e4m3 :=
  truncf .fp8e4m3 (minimumf (broadcast S256x128 (Scalar.truncf .bf16 bitsLt_bf16_f32 (Scalar.ofBits .f32 0x43E00000#32)))
    (maximumf (broadcast S256x128 (Scalar.truncf .bf16 bitsLt_bf16_f32 (Scalar.ofBits .f32 0xC3E00000#32)))
      (mulf (shapeCast S256x128 v shapeCasts_S256x128_S256x128) (broadcastTo S256x128 (truncf .bf16 (ginv (gy v)) bitsLt_bf16_f32) broadcasts_S256x1_S256x128)))) bitsLt_fp8e4m3_bf16

/-- A group dequantised. -/
def gdeq (v : Vec F S256x128 .bf16) : FVec F S256x128 .bf16 :=
  shapeCast S256x128 (mulf (extf .bf16 (gcode v) bitsLt_fp8e4m3_bf16)
    (broadcastTo S256x128 (truncf .bf16 (gscale (gy v)) bitsLt_bf16_f32) broadcasts_S256x1_S256x128)) shapeCasts_S256x128_S256x128

/-- Columns `off …` of a block, 128 of them. -/
def cols (x : Vec F S256x8192 .bf16) (off : Nat) (h : off + 128 ≤ 8192) : Vec F S256x128 .bf16 :=
  fun j => x (ix2 (j 0) ⟨off + (j 1).val, by have : (j 1).val < 128 := (j 1).isLt; omega⟩)

theorem ld_cols (x : Vec F S256x8192 .bf16) (off : Nat) (h : off + 128 ≤ 8192) (inb) :
    View.ld x (Rect.unit (s := S256x8192) ![0, off] S256x128.size inb) = cols x off h := by
  funext j
  unfold cols
  pointwise

/-- A function of a group of 128 columns, applied to every group of a block. -/
def byCols {β : Type} (f : Vec F S256x128 .bf16 → S256x128.Idx → β) (x : Vec F S256x8192 .bf16) : S256x8192.Idx → β :=
  fun y => f (cols x (128 * ((y 1).val / 128)) (by have : (y 1).val < 8192 := (y 1).isLt; omega))
    (ix2 ⟨(y 0).val, (y 0).isLt⟩ ⟨(y 1).val % 128, Nat.mod_lt _ (by decide)⟩)

theorem tile_of {β : Type} (f : Vec F S256x128 .bf16 → S256x128.Idx → β) (x : Vec F S256x8192 .bf16) (off : Nat) (hoff : off % 128 = 0)
    (inb) (j : S256x128.Idx) (y : S256x8192.Idx) (h0 : (y 0).val = (j 0).val) (h1 : (y 1).val = off + (j 1).val) :
    f (View.ld x (Rect.unit (s := S256x8192) ![0, off] S256x128.size inb)) j = byCols f x y := by
  have hj : (j 1).val < 128 := (j 1).isLt
  have hy : (y 1).val < 8192 := (y 1).isLt
  have e : 128 * ((y 1).val / 128) = off := by omega
  rw [ld_cols x off (by omega) inb]
  unfold byCols
  have e2 : (ix2 ⟨(y 0).val, (y 0).isLt⟩ ⟨(y 1).val % 128, Nat.mod_lt _ (by decide)⟩ : S256x128.Idx) = j := by
    funext a
    apply Fin.ext
    match a with
    | ⟨0, _⟩ => exact h0
    | ⟨1, _⟩ => show (y 1).val % 128 = (j 1).val; omega
  have e3 : ∀ (o : Nat) (ho : o + 128 ≤ 8192), o = off → cols x o ho = cols x off (by omega) := by
    rintro _ _ rfl; rfl
  rw [e2, e3 _ _ e]

/-- Reading a whole activation block back gives what its pieces amount to. -/
theorem readX (v : View sig .tc .vmem S256x8192 .bf16) (L : List (View.Piece (Elt F) S256x8192 .bf16)) (inb) (h : ∀ y, ∃ p ∈ L, y ∈ p.1.set) :
    v.readCov L (Rect.unit (s := S256x8192) ![0, 0] S256x8192.size inb).toLoadRect = View.canon L := by
  rw [View.readCov_eq_canon_ld _ _ _ h, View.ld_unit_zero (by funext a; match a with | ⟨0, _⟩ => rfl | ⟨1, _⟩ => rfl)]

/-- The same for the weights' block. -/
theorem readW (v : View sig .tc .vmem S576x8192 .bf16) (L : List (View.Piece (Elt F) S576x8192 .bf16)) (inb) (h : ∀ y, ∃ p ∈ L, y ∈ p.1.set) :
    v.readCov L (Rect.unit (s := S576x8192) ![0, 0] S576x8192.size inb).toLoadRect = View.canon L := by
  rw [View.readCov_eq_canon_ld _ _ _ h, View.ld_unit_zero (by funext a; match a with | ⟨0, _⟩ => rfl | ⟨1, _⟩ => rfl)]

/-- The weights dequantised: each code times its block's scale. -/
def wdeq (x1 : Vec F S576x8192 .fp8e4m3) (x2 : Vec F S5x64 .f32) : Vec F S576x8192 .bf16 :=
  fun y => FloatOps.mulf (FloatOps.extf .bf16 bitsLt_fp8e4m3_bf16 (x1 y)) (FloatOps.truncf .bf16 bitsLt_bf16_f32
    (x2 (ix2 ⟨(y 0).val / 128, by have : (y 0).val < 576 := (y 0).isLt; omega⟩ ⟨(y 1).val / 128, by have : (y 1).val < 8192 := (y 1).isLt; omega⟩)))

/-- The product of the dequantised weights and a block of dequantised activations. -/
def dots (w : Vec F S576x8192 .bf16) (x : Vec F S256x8192 .bf16) : FVec F S576x256 .f32 :=
  matmul dot_S576x8192_S256x8192_S576x256_1_1_0_0_n_n none w x (constant S576x256 .f32 0x00000000#32)

/-- Its last 64 rows, rounded and transposed. -/
def kpe (d : FVec F S576x256 .f32) : FVec F S256x64 .bf16 :=
  transpose S256x64 [1, 0] (truncf .bf16 (extractStridedSlice S64x256 ![512, 0] d slices_S576x256_o512_0_S64x256) bitsLt_bf16_f32) transposes_S64x256_p1_0_S256x64

/-- Its first 512 rows. -/
def latent (d : FVec F S576x256 .f32) : FVec F S512x256 .f32 :=
  extractStridedSlice S512x256 ![0, 0] d slices_S576x256_o0_0_S512x256

/-- The rows normalised. -/
def norm (c : FVec F S512x256 .f32) (gamma : Vec F S512x1 .bf16) : FVec F S512x256 .f32 :=
  mulf (mulf c (broadcastTo S512x256 (rsqrt (addf (divf (shapeCast S1x256 (multiReduction .add [0] S256 (mulf c c) 0x00000000#32 reduces_S512x256_S256 (.inl rfl) rfl) shapeCasts_S256_S1x256)
      (broadcast S1x256 (Scalar.ofBits .f32 0x44000000#32))) (broadcast S1x256 (Scalar.ofBits .f32 0x358637BD#32)))) broadcasts_S1x256_S512x256))
    (broadcastTo S512x256 (extf .f32 (shapeCast S512x1 gamma shapeCasts_S512x1_S512x1) bitsLt_bf16_f32) broadcasts_S512x1_S512x256)

/-- A group's largest magnitude over 448, per column. -/
def oy (v : FVec F S128x256 .f32) : FVec F S1x256 .f32 :=
  mulf (shapeCast S1x256 (multiReduction .maximumf [0] S256 (absf v) 0xFF800000#32 reduces_S128x256_S256 (.inl rfl) rfl) shapeCasts_S256_S1x256)
    (broadcast S1x256 (Scalar.ofBits .f32 0x3B124925#32))

/-- The count of powers of two a column's magnitude reaches. -/
def ocount (y : FVec F S1x256 .f32) : IVec S1x256 32 :=
  shapeCast S1x256 (multiReductionI .add [0] S256 (extui 32 (cmpf .oge (broadcastTo S255x256 y broadcasts_S1x256_S255x256)
    (bitcastToFloat .f32 (shli (addi (iota .tc S255x256 32 [0] iota_S255x256_d0_w32) (broadcast S255x256 1#32)) (broadcast S255x256 23#32)))) natLt_1_32)
    0#32 reduces_S255x256_S256 rfl) shapeCasts_S256_S1x256

/-- The exponent word. -/
def oexp (y : FVec F S1x256 .f32) : IVec S1x256 32 :=
  select (cmpi .eq (ocount y) (broadcast S1x256 0#32)) (broadcast S1x256 0#32) (subi (ocount y) (broadcast S1x256 126#32))

/-- The scale. -/
def oscale (y : FVec F S1x256 .f32) : FVec F S1x256 .f32 :=
  bitcastToFloat .f32 (shli (addi (broadcast S1x256 127#32) (oexp y)) (broadcast S1x256 23#32))

/-- The inverse scale. -/
def oinv (y : FVec F S1x256 .f32) : FVec F S1x256 .f32 :=
  bitcastToFloat .f32 (shli (subi (broadcast S1x256 127#32) (oexp y)) (broadcast S1x256 23#32))

/-- A group's codes, transposed. -/
def ocode (v : FVec F S128x256 .f32) : FVec F S256x128 .fp8e4m3 :=
  truncf .fp8e4m3 (transpose S256x128 [1, 0] (extf .bf16 (truncf .fp8e4m3 (minimumf (broadcast S128x256 (Scalar.ofBits .f32 0x43E00000#32))
    (maximumf (broadcast S128x256 (Scalar.ofBits .f32 0xC3E00000#32)) (mulf v (broadcastTo S128x256 (oinv (oy v)) broadcasts_S1x256_S128x256)))) bitsLt_fp8e4m3_f32) bitsLt_fp8e4m3_bf16)
    transposes_S128x256_p1_0_S256x128) bitsLt_fp8e4m3_bf16

/-- Rows `off …`, 128 of them. -/
def rows (x : FVec F S512x256 .f32) (off : Nat) (h : off + 128 ≤ 512) : FVec F S128x256 .f32 :=
  fun j => x (ix2 ⟨off + (j 0).val, by have : (j 0).val < 128 := (j 0).isLt; omega⟩ (j 1))

theorem slice_rows (x : FVec F S512x256 .f32) (off : Nat) (h : off + 128 ≤ 512) (sl) :
    extractStridedSlice S128x256 ![off, 0] x sl = rows x off h := by
  funext j
  unfold rows
  pointwise

/-- The codes of every group of 128 normalised rows. -/
def occ (n : FVec F S512x256 .f32) : FVec F S256x512 .fp8e4m3 :=
  fun y => ocode (rows n (128 * ((y 1).val / 128)) (by have : (y 1).val < 512 := (y 1).isLt; omega))
    (ix2 ⟨(y 0).val, (y 0).isLt⟩ ⟨(y 1).val % 128, Nat.mod_lt _ (by decide)⟩)

theorem rows_of (n : FVec F S512x256 .f32) (off : Nat) (hoff : off % 128 = 0) (hlt : off + 128 ≤ 512)
    (sl) (j : S256x128.Idx) (y : S256x512.Idx) (h0 : (y 0).val = (j 0).val) (h1 : (y 1).val = off + (j 1).val) :
    ocode (extractStridedSlice S128x256 ![off, 0] n sl) j = occ n y := by
  have hj : (j 1).val < 128 := (j 1).isLt
  have hy : (y 1).val < 512 := (y 1).isLt
  have e : 128 * ((y 1).val / 128) = off := by omega
  rw [slice_rows n off hlt sl]
  unfold occ
  have e2 : (ix2 ⟨(y 0).val, (y 0).isLt⟩ ⟨(y 1).val % 128, Nat.mod_lt _ (by decide)⟩ : S256x128.Idx) = j := by
    funext a
    apply Fin.ext
    match a with
    | ⟨0, _⟩ => exact h0
    | ⟨1, _⟩ => show (y 1).val % 128 = (j 1).val; omega
  have e3 : ∀ (o : Nat) (ho : o + 128 ≤ 512), o = off → rows n o ho = rows n off hlt := by
    rintro _ _ rfl; rfl
  rw [e2, e3 _ _ e]

/-- The scales of the four groups of normalised rows, one column each. -/
def ocs (n : FVec F S512x256 .f32) : FVec F S256x4 .f32 :=
  extractStridedSlice S256x4 ![0, 0] (transpose S256x8 [1, 0] (concatenate S8x256 0 [
    ⟨S1x256, oscale (oy (extractStridedSlice S128x256 ![0, 0] n slices_S512x256_o0_0_S128x256))⟩,
    ⟨S1x256, oscale (oy (extractStridedSlice S128x256 ![128, 0] n slices_S512x256_o128_0_S128x256))⟩,
    ⟨S1x256, oscale (oy (extractStridedSlice S128x256 ![256, 0] n slices_S512x256_o256_0_S128x256))⟩,
    ⟨S1x256, oscale (oy (extractStridedSlice S128x256 ![384, 0] n slices_S512x256_o384_0_S128x256))⟩,
    ⟨S4x256, broadcast S4x256 (Scalar.ofBits .f32 0x00000000#32)⟩] concatenates_S1x256_S1x256_S1x256_S1x256_S4x256_S8x256_d0) transposes_S8x256_p1_0_S256x8) slices_S256x8_o0_0_S256x4

/-- The scale of group `g` of a block's row. -/
def xscale (x : Vec F S256x8192 .bf16) (r : Fin 256) (g : Nat) (hg : g < 64) : F .f32 :=
  gscale (gy (cols x (128 * g) (by omega))) (ix2 r 0)

/-- The scales of a block's groups. -/
def oxs (x : Vec F S256x8192 .bf16) : FVec F S256x64 .f32 :=
  fun y => xscale x ⟨(y 0).val, (y 0).isLt⟩ (y 1).val (y 1).isLt

/-- One step of the loop which collects the scales: lane `g` takes group `g`'s. -/
theorem sel_step (x : Vec F S256x8192 .bf16) (g off : Nat) (hg : g < 64) (hoff : off = 128 * g) (inb) (gw : BitVec 32) (hgw : gw = BitVec.ofNat 32 g)
    (prev : FVec F S256x64 .f32) (y : S256x64.Idx) (h : (y 1).val < g → prev y = oxs x y) (hy : (y 1).val < g + 1) :
    select (cmpi .eq (iota .tc S256x64 32 [1] iota_S256x64_d1_w32) (broadcast S256x64 gw))
      (broadcastTo S256x64 (shapeCast S256x1 (gscale (gy (View.ld x (Rect.unit (s := S256x8192) ![0, off] S256x128.size inb)))) shapeCasts_S256x1_S256x1) broadcasts_S256x1_S256x64) prev y = oxs x y := by
  subst hoff
  subst hgw
  rw [ld_cols x (128 * g) (by omega) inb]
  have key : ∀ (s : FVec F S256x1 .f32), select (cmpi .eq (iota .tc S256x64 32 [1] iota_S256x64_d1_w32) (broadcast S256x64 (BitVec.ofNat 32 g)))
      (broadcastTo S256x64 (shapeCast S256x1 s shapeCasts_S256x1_S256x1) broadcasts_S256x1_S256x64) prev y
      = if (y 1).val = g then s (ix2 ⟨(y 0).val, (y 0).isLt⟩ 0) else prev y := by
    intro s
    have e : (BitVec.ofNat 32 (y 1).val = BitVec.ofNat 32 g) ↔ (y 1).val = g := by
      constructor
      · intro h
        have := congrArg BitVec.toNat h
        have h1 : (y 1).val < 64 := (y 1).isLt
        simp only [BitVec.toNat_ofNat] at this
        omega
      · intro h; rw [h]
    pointwise
    by_cases hc : (y 1).val = g
    · rw [if_pos hc, hc]
      simp [Scalar.select, IntOp.cmpi]
    · rw [if_neg hc]
      have hn : ¬ (BitVec.ofNat 32 (y 1).val = BitVec.ofNat 32 g) := fun h => hc (e.mp h)
      simp [Scalar.select, IntOp.cmpi, beq_eq_false_iff_ne.mpr hn]
  rw [key]
  split
  · rename_i e
    unfold oxs xscale
    have e3 : ∀ (o : Nat) (ho : o < 64), o = g → cols x (128 * o) (by omega) = cols x (128 * g) (by omega) := by
      rintro _ _ rfl; rfl
    rw [e3 _ (y 1).isLt e]
  · exact h (by omega)

end Cert.KernelIdeal.Block

end
-- ==== Proof.Weights.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

/-- A tile of 128 rows of the dequantised weights is a part of the whole. -/
theorem wtile128 (x1 : Vec F S576x8192 .fp8e4m3) (x2 : Vec F S5x64 .f32) (ob g r cc : Nat) (inb1) (inb2) (i : S1x1.Idx) (hsc)
    (j : S128x128.Idx) (y : S576x8192.Idx) (hr : r = 128 * ob) (hc : cc = 128 * g) (h0 : (y 0).val = r + (j 0).val) (h1 : (y 1).val = cc + (j 1).val) :
    shapeCast S128x128 (mulf (extf .bf16 (View.ld x1 (Rect.unit (s := S576x8192) ![r, cc] S128x128.size inb1)) bitsLt_fp8e4m3_bf16)
      (truncf .bf16 (broadcast S128x128 (View.ld x2 (Rect.unit (s := S5x64) ![ob, g] S1x1.size inb2) i)) bitsLt_bf16_f32)) hsc j = wdeq x1 x2 y := by
  have hj0 : (j 0).val < 128 := (j 0).isLt
  have hj1 : (j 1).val < 128 := (j 1).isLt
  have hi0 : (i 0).val < 1 := (i 0).isLt
  have hi1 : (i 1).val < 1 := (i 1).isLt
  have e1 : View.ld x1 (Rect.unit (s := S576x8192) ![r, cc] S128x128.size inb1) j = x1 y := by
    refine congrArg x1 ?_
    funext a
    apply Fin.ext
    match a with
    | ⟨0, _⟩ => show r + 1 * (j 0).val = (y 0).val; omega
    | ⟨1, _⟩ => show cc + 1 * (j 1).val = (y 1).val; omega
  have e2 : View.ld x2 (Rect.unit (s := S5x64) ![ob, g] S1x1.size inb2) i
      = x2 (ix2 ⟨(y 0).val / 128, by have : (y 0).val < 576 := (y 0).isLt; omega⟩ ⟨(y 1).val / 128, by have : (y 1).val < 8192 := (y 1).isLt; omega⟩) := by
    refine congrArg x2 ?_
    funext a
    apply Fin.ext
    match a with
    | ⟨0, _⟩ => show ob + 1 * (i 0).val = (y 0).val / 128; omega
    | ⟨1, _⟩ => show g + 1 * (i 1).val = (y 1).val / 128; omega
  unfold wdeq
  rw [← e1, ← e2]
  pointwise

/-- A tile of 64 rows of the dequantised weights is a part of the whole. -/
theorem wtile64 (x1 : Vec F S576x8192 .fp8e4m3) (x2 : Vec F S5x64 .f32) (ob g r cc : Nat) (inb1) (inb2) (i : S1x1.Idx) (hsc)
    (j : S64x128.Idx) (y : S576x8192.Idx) (hr : r = 128 * ob) (hc : cc = 128 * g) (h0 : (y 0).val = r + (j 0).val) (h1 : (y 1).val = cc + (j 1).val) :
    shapeCast S64x128 (mulf (extf .bf16 (View.ld x1 (Rect.unit (s := S576x8192) ![r, cc] S64x128.size inb1)) bitsLt_fp8e4m3_bf16)
      (truncf .bf16 (broadcast S64x128 (View.ld x2 (Rect.unit (s := S5x64) ![ob, g] S1x1.size inb2) i)) bitsLt_bf16_f32)) hsc j = wdeq x1 x2 y := by
  have hj0 : (j 0).val < 64 := (j 0).isLt
  have hj1 : (j 1).val < 128 := (j 1).isLt
  have hi0 : (i 0).val < 1 := (i 0).isLt
  have hi1 : (i 1).val < 1 := (i 1).isLt
  have e1 : View.ld x1 (Rect.unit (s := S576x8192) ![r, cc] S64x128.size inb1) j = x1 y := by
    refine congrArg x1 ?_
    funext a
    apply Fin.ext
    match a with
    | ⟨0, _⟩ => show r + 1 * (j 0).val = (y 0).val; omega
    | ⟨1, _⟩ => show cc + 1 * (j 1).val = (y 1).val; omega
  have e2 : View.ld x2 (Rect.unit (s := S5x64) ![ob, g] S1x1.size inb2) i
      = x2 (ix2 ⟨(y 0).val / 128, by have : (y 0).val < 576 := (y 0).isLt; omega⟩ ⟨(y 1).val / 128, by have : (y 1).val < 8192 := (y 1).isLt; omega⟩) := by
    refine congrArg x2 ?_
    funext a
    apply Fin.ext
    match a with
    | ⟨0, _⟩ => show ob + 1 * (i 0).val = (y 0).val / 128; omega
    | ⟨1, _⟩ => show g + 1 * (i 1).val = (y 1).val / 128; omega
  unfold wdeq
  rw [← e1, ← e2]
  pointwise

set_option maxHeartbeats 4000000
/-- The first grid point leaves the dequantised weights in the scratch. -/
theorem sout_A (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : cond0_0 i) (x0 : Vec F S256x8192 .bf16) (x1 : Vec F S576x8192 .fp8e4m3) (x2 : Vec F S5x64 .f32) (x3 : Vec F S512x1 .bf16) :
    sout0_A_0 c i arg1 harg1 arg2 harg2 arg3 harg3 arg4 harg4 arg5 harg5 arg6 harg6 arg7 harg7 arg8 harg8 arg9 harg9 arg10 harg10 arg11 harg11 hc0 x0 x1 x2 x3 = wdeq x1 x2 := by
  funext y
  frame_out
  canon_tiles x h using (View.cover_of_tiledBy _ ![64, 128] (by sl_kernel_rfl) y)
  all_goals
    first
    | exact wtile128 x1 x2 _ _ _ _ _ _ _ _ x y (by omega) (by omega) (by omega) (by omega)
    | exact wtile64 x1 x2 _ _ _ _ _ _ _ _ x y (by omega) (by omega) (by omega) (by omega)

end Cert.KernelIdeal.Block

end
-- ==== Proof.BlockA4.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles
public import proofs.«01_k».proof.Proof.Weights

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 1500000

/-- What the body leaves in output window 4 (the codes of the normalised latents) at the first grid point, which also dequantises the weights into the scratch. -/
theorem out_A_4 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : cond0_0 i) (x0 : Vec F S256x8192 .bf16) (x1 : Vec F S576x8192 .fp8e4m3) (x2 : Vec F S5x64 .f32) (x3 : Vec F S512x1 .bf16) :
    out0_A_4 c i arg1 harg1 arg2 harg2 arg3 harg3 arg4 harg4 arg5 harg5 arg6 harg6 arg7 harg7 arg8 harg8 arg9 harg9 arg10 harg10 arg11 harg11 hc0 x0 x1 x2 x3 = occ (norm (latent (dots (wdeq x1 x2) (byCols gdeq x0))) x3) := by
  funext y
  frame_out
  canon_tiles x h
  · refine (congr (congrArg (a₂ := wdeq x1 x2) (fun W X => k0_pay1 (k0_pay921 (k0_pay905 (k0_pay901 W X) (k0_pay903 W X) k0_pay904 x3)) (k0_pay924 (k0_pay905 (k0_pay901 W X) (k0_pay903 W X) k0_pay904 x3)) k0_pay925 x) ?_) (?_ : _ = byCols gdeq x0)).trans ?_
    · refine (readW _ _ _ (fun y => View.cover_of_tiledBy _ ![64, 128] (by sl_kernel_rfl) y)).trans ?_
      funext z
      canon_tiles x' h' using (View.cover_of_tiledBy _ ![64, 128] (by sl_kernel_rfl) z)
      all_goals
        first
        | exact wtile128 x1 x2 _ _ _ _ _ _ _ _ x' z (by omega) (by omega) (by omega) (by omega)
        | exact wtile64 x1 x2 _ _ _ _ _ _ _ _ x' z (by omega) (by omega) (by omega) (by omega)
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots (wdeq x1 x2) (byCols gdeq x0))) x3) 384 rfl (by omega) slices_S512x256_o384_0_S128x256 x y h0 (by omega)
  · refine (congr (congrArg (a₂ := wdeq x1 x2) (fun W X => k0_pay920 (k0_pay916 (k0_pay905 (k0_pay901 W X) (k0_pay903 W X) k0_pay904 x3)) (k0_pay919 (k0_pay905 (k0_pay901 W X) (k0_pay903 W X) k0_pay904 x3)) x) ?_) (?_ : _ = byCols gdeq x0)).trans ?_
    · refine (readW _ _ _ (fun y => View.cover_of_tiledBy _ ![64, 128] (by sl_kernel_rfl) y)).trans ?_
      funext z
      canon_tiles x' h' using (View.cover_of_tiledBy _ ![64, 128] (by sl_kernel_rfl) z)
      all_goals
        first
        | exact wtile128 x1 x2 _ _ _ _ _ _ _ _ x' z (by omega) (by omega) (by omega) (by omega)
        | exact wtile64 x1 x2 _ _ _ _ _ _ _ _ x' z (by omega) (by omega) (by omega) (by omega)
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots (wdeq x1 x2) (byCols gdeq x0))) x3) 256 rfl (by omega) slices_S512x256_o256_0_S128x256 x y h0 (by omega)
  · refine (congr (congrArg (a₂ := wdeq x1 x2) (fun W X => k0_pay915 (k0_pay911 (k0_pay905 (k0_pay901 W X) (k0_pay903 W X) k0_pay904 x3)) (k0_pay914 (k0_pay905 (k0_pay901 W X) (k0_pay903 W X) k0_pay904 x3)) x) ?_) (?_ : _ = byCols gdeq x0)).trans ?_
    · refine (readW _ _ _ (fun y => View.cover_of_tiledBy _ ![64, 128] (by sl_kernel_rfl) y)).trans ?_
      funext z
      canon_tiles x' h' using (View.cover_of_tiledBy _ ![64, 128] (by sl_kernel_rfl) z)
      all_goals
        first
        | exact wtile128 x1 x2 _ _ _ _ _ _ _ _ x' z (by omega) (by omega) (by omega) (by omega)
        | exact wtile64 x1 x2 _ _ _ _ _ _ _ _ x' z (by omega) (by omega) (by omega) (by omega)
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots (wdeq x1 x2) (byCols gdeq x0))) x3) 128 rfl (by omega) slices_S512x256_o128_0_S128x256 x y h0 (by omega)
  · refine (congr (congrArg (a₂ := wdeq x1 x2) (fun W X => k0_pay910 (k0_pay906 (k0_pay901 W X) (k0_pay903 W X) k0_pay904 x3) (k0_pay909 (k0_pay901 W X) (k0_pay903 W X) k0_pay904 x3) x) ?_) (?_ : _ = byCols gdeq x0)).trans ?_
    · refine (readW _ _ _ (fun y => View.cover_of_tiledBy _ ![64, 128] (by sl_kernel_rfl) y)).trans ?_
      funext z
      canon_tiles x' h' using (View.cover_of_tiledBy _ ![64, 128] (by sl_kernel_rfl) z)
      all_goals
        first
        | exact wtile128 x1 x2 _ _ _ _ _ _ _ _ x' z (by omega) (by omega) (by omega) (by omega)
        | exact wtile64 x1 x2 _ _ _ _ _ _ _ _ x' z (by omega) (by omega) (by omega) (by omega)
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots (wdeq x1 x2) (byCols gdeq x0))) x3) 0 rfl (by omega) slices_S512x256_o0_0_S128x256 x y h0 (by omega)

end Cert.KernelIdeal.Block

end
-- ==== Proof.BlockA5.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles
public import proofs.«01_k».proof.Proof.Weights

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 1500000

/-- What the body leaves in output window 5 (the scales of the normalised latents) at the first grid point, which also dequantises the weights into the scratch. -/
theorem out_A_5 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : cond0_0 i) (x0 : Vec F S256x8192 .bf16) (x1 : Vec F S576x8192 .fp8e4m3) (x2 : Vec F S5x64 .f32) (x3 : Vec F S512x1 .bf16) :
    out0_A_5 c i arg1 harg1 arg2 harg2 arg3 harg3 arg4 harg4 arg5 harg5 arg6 harg6 arg7 harg7 arg8 harg8 arg9 harg9 arg10 harg10 arg11 harg11 hc0 x0 x1 x2 x3 = ocs (norm (latent (dots (wdeq x1 x2) (byCols gdeq x0))) x3) := by
  funext y
  frame_out
  refine (congr (congrArg (a₂ := wdeq x1 x2) (fun W X => k0_pay2 (k0_pay908 (k0_pay901 W X) (k0_pay903 W X) k0_pay904 x3) (k0_pay913 (k0_pay905 (k0_pay901 W X) (k0_pay903 W X) k0_pay904 x3)) (k0_pay918 (k0_pay905 (k0_pay901 W X) (k0_pay903 W X) k0_pay904 x3)) (k0_pay923 (k0_pay905 (k0_pay901 W X) (k0_pay903 W X) k0_pay904 x3)) y) ?_) (?_ : _ = byCols gdeq x0)).trans ?_
  · refine (readW _ _ _ (fun y => View.cover_of_tiledBy _ ![64, 128] (by sl_kernel_rfl) y)).trans ?_
    funext z
    canon_tiles x' h' using (View.cover_of_tiledBy _ ![64, 128] (by sl_kernel_rfl) z)
    all_goals
      first
      | exact wtile128 x1 x2 _ _ _ _ _ _ _ _ x' z (by omega) (by omega) (by omega) (by omega)
      | exact wtile64 x1 x2 _ _ _ _ _ _ _ _ x' z (by omega) (by omega) (by omega) (by omega)
  · refine (readX _ _ _ (fun y => View.cover_of_tiledL _ ![256, 128] (by sl_kernel_rfl) y)).trans ?_
    funext z
    canon_tiles x' h'
    all_goals (refine tile_of gdeq x0 _ ?_ _ x' z h'0 ?_ <;> omega)
  · rfl

end Cert.KernelIdeal.Block

end
-- ==== Proof.BlockA6.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles
public import proofs.«01_k».proof.Proof.Weights

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 1500000

/-- What the body leaves in output window 6 (the rotary rows) at the first grid point, which also dequantises the weights into the scratch. -/
theorem out_A_6 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : cond0_0 i) (x0 : Vec F S256x8192 .bf16) (x1 : Vec F S576x8192 .fp8e4m3) (x2 : Vec F S5x64 .f32) (x3 : Vec F S512x1 .bf16) :
    out0_A_6 c i arg1 harg1 arg2 harg2 arg3 harg3 arg4 harg4 arg5 harg5 arg6 harg6 arg7 harg7 arg8 harg8 arg9 harg9 arg10 harg10 arg11 harg11 hc0 x0 x1 x2 x3 = kpe (dots (wdeq x1 x2) (byCols gdeq x0)) := by
  funext y
  frame_out
  refine (congr (congrArg (a₂ := wdeq x1 x2) (fun W X => k0_pay902 W X y) ?_) (?_ : _ = byCols gdeq x0)).trans ?_
  · refine (readW _ _ _ (fun y => View.cover_of_tiledBy _ ![64, 128] (by sl_kernel_rfl) y)).trans ?_
    funext z
    canon_tiles x' h' using (View.cover_of_tiledBy _ ![64, 128] (by sl_kernel_rfl) z)
    all_goals
      first
      | exact wtile128 x1 x2 _ _ _ _ _ _ _ _ x' z (by omega) (by omega) (by omega) (by omega)
      | exact wtile64 x1 x2 _ _ _ _ _ _ _ _ x' z (by omega) (by omega) (by omega) (by omega)
  · refine (readX _ _ _ (fun y => View.cover_of_tiledL _ ![256, 128] (by sl_kernel_rfl) y)).trans ?_
    funext z
    canon_tiles x' h'
    all_goals (refine tile_of gdeq x0 _ ?_ _ x' z h'0 ?_ <;> omega)
  · rfl

end Cert.KernelIdeal.Block

end
-- ==== Proof.BlockA7.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles
public import proofs.«01_k».proof.Proof.Weights

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 1500000

/-- What the body leaves in output window 7 (the activations' codes) at the first grid point, which also dequantises the weights into the scratch. -/
theorem out_A_7 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : cond0_0 i) (x0 : Vec F S256x8192 .bf16) (x1 : Vec F S576x8192 .fp8e4m3) (x2 : Vec F S5x64 .f32) (x3 : Vec F S512x1 .bf16) :
    out0_A_7 c i arg1 harg1 arg2 harg2 arg3 harg3 arg4 harg4 arg5 harg5 arg6 harg6 arg7 harg7 arg8 harg8 arg9 harg9 arg10 harg10 arg11 harg11 hc0 x0 x1 x2 x3 = byCols gcode x0 := by
  funext y
  frame_out
  canon_tiles x h
  all_goals (refine tile_of gcode x0 _ ?_ _ x y h0 ?_ <;> omega)

end Cert.KernelIdeal.Block

end
-- ==== Proof.BlockA8.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles
public import proofs.«01_k».proof.Proof.Weights

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 1500000

/-- What the body leaves in output window 8 (the activations' scales) at the first grid point, which also dequantises the weights into the scratch. -/
theorem out_A_8 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : cond0_0 i) (x0 : Vec F S256x8192 .bf16) (x1 : Vec F S576x8192 .fp8e4m3) (x2 : Vec F S5x64 .f32) (x3 : Vec F S512x1 .bf16) :
    out0_A_8 c i arg1 harg1 arg2 harg2 arg3 harg3 arg4 harg4 arg5 harg5 arg6 harg6 arg7 harg7 arg8 harg8 arg9 harg9 arg10 harg10 arg11 harg11 hc0 x0 x1 x2 x3 = oxs x0 := by
  funext y
  have hy : (y 1).val < 64 := (y 1).isLt
  frame_out
  refine sel_step x0 63 8064 (by decide) rfl _ _ rfl _ y (fun _ => ?_) (by omega)
  refine sel_step x0 62 7936 (by decide) rfl _ _ rfl _ y (fun _ => ?_) (by omega)
  refine sel_step x0 61 7808 (by decide) rfl _ _ rfl _ y (fun _ => ?_) (by omega)
  refine sel_step x0 60 7680 (by decide) rfl _ _ rfl _ y (fun _ => ?_) (by omega)
  refine sel_step x0 59 7552 (by decide) rfl _ _ rfl _ y (fun _ => ?_) (by omega)
  refine sel_step x0 58 7424 (by decide) rfl _ _ rfl _ y (fun _ => ?_) (by omega)
  refine sel_step x0 57 7296 (by decide) rfl _ _ rfl _ y (fun _ => ?_) (by omega)
  refine sel_step x0 56 7168 (by decide) rfl _ _ rfl _ y (fun _ => ?_) (by omega)
  refine sel_step x0 55 7040 (by decide) rfl _ _ rfl _ y (fun _ => ?_) (by omega)
  refine sel_step x0 54 6912 (by decide) rfl _ _ rfl _ y (fun _ => ?_) (by omega)
  refine sel_step x0 53 6784 (by decide) rfl _ _ rfl _ y (fun _ => ?_) (by omega)
  refine sel_step x0 52 6656 (by decide) rfl _ _ rfl _ y (fun _ => ?_) (by omega)
  refine sel_step x0 51 6528 (by decide) rfl _ _ rfl _ y (fun _ => ?_) (by omega)
  refine sel_step x0 50 6400 (by decide) rfl _ _ rfl _ y (fun _ => ?_) (by omega)
  refine sel_step x0 49 6272 (by decide) rfl _ _ rfl _ y (fun _ => ?_) (by omega)
  refine sel_step x0 48 6144 (by decide) rfl _ _ rfl _ y (fun _ => ?_) (by omega)
  refine sel_step x0 47 6016 (by decide) rfl _ _ rfl _ y (fun _ => ?_) (by omega)
  refine sel_step x0 46 5888 (by decide) rfl _ _ rfl _ y (fun _ => ?_) (by omega)
  refine sel_step x0 45 5760 (by decide) rfl _ _ rfl _ y (fun _ => ?_) (by omega)
  refine sel_step x0 44 5632 (by decide) rfl _ _ rfl _ y (fun _ => ?_) (by omega)
  refine sel_step x0 43 5504 (by decide) rfl _ _ rfl _ y (fun _ => ?_) (by omega)
  refine sel_step x0 42 5376 (by decide) rfl _ _ rfl _ y (fun _ => ?_) (by omega)
  refine sel_step x0 41 5248 (by decide) rfl _ _ rfl _ y (fun _ => ?_) (by omega)
  refine sel_step x0 40 5120 (by decide) rfl _ _ rfl _ y (fun _ => ?_) (by omega)
  refine sel_step x0 39 4992 (by decide) rfl _ _ rfl _ y (fun _ => ?_) (by omega)
  refine sel_step x0 38 4864 (by decide) rfl _ _ rfl _ y (fun _ => ?_) (by omega)
  refine sel_step x0 37 4736 (by decide) rfl _ _ rfl _ y (fun _ => ?_) (by omega)
  refine sel_step x0 36 4608 (by decide) rfl _ _ rfl _ y (fun _ => ?_) (by omega)
  refine sel_step x0 35 4480 (by decide) rfl _ _ rfl _ y (fun _ => ?_) (by omega)
  refine sel_step x0 34 4352 (by decide) rfl _ _ rfl _ y (fun _ => ?_) (by omega)
  refine sel_step x0 33 4224 (by decide) rfl _ _ rfl _ y (fun _ => ?_) (by omega)
  refine sel_step x0 32 4096 (by decide) rfl _ _ rfl _ y (fun _ => ?_) (by omega)
  refine sel_step x0 31 3968 (by decide) rfl _ _ rfl _ y (fun _ => ?_) (by omega)
  refine sel_step x0 30 3840 (by decide) rfl _ _ rfl _ y (fun _ => ?_) (by omega)
  refine sel_step x0 29 3712 (by decide) rfl _ _ rfl _ y (fun _ => ?_) (by omega)
  refine sel_step x0 28 3584 (by decide) rfl _ _ rfl _ y (fun _ => ?_) (by omega)
  refine sel_step x0 27 3456 (by decide) rfl _ _ rfl _ y (fun _ => ?_) (by omega)
  refine sel_step x0 26 3328 (by decide) rfl _ _ rfl _ y (fun _ => ?_) (by omega)
  refine sel_step x0 25 3200 (by decide) rfl _ _ rfl _ y (fun _ => ?_) (by omega)
  refine sel_step x0 24 3072 (by decide) rfl _ _ rfl _ y (fun _ => ?_) (by omega)
  refine sel_step x0 23 2944 (by decide) rfl _ _ rfl _ y (fun _ => ?_) (by omega)
  refine sel_step x0 22 2816 (by decide) rfl _ _ rfl _ y (fun _ => ?_) (by omega)
  refine sel_step x0 21 2688 (by decide) rfl _ _ rfl _ y (fun _ => ?_) (by omega)
  refine sel_step x0 20 2560 (by decide) rfl _ _ rfl _ y (fun _ => ?_) (by omega)
  refine sel_step x0 19 2432 (by decide) rfl _ _ rfl _ y (fun _ => ?_) (by omega)
  refine sel_step x0 18 2304 (by decide) rfl _ _ rfl _ y (fun _ => ?_) (by omega)
  refine sel_step x0 17 2176 (by decide) rfl _ _ rfl _ y (fun _ => ?_) (by omega)
  refine sel_step x0 16 2048 (by decide) rfl _ _ rfl _ y (fun _ => ?_) (by omega)
  refine sel_step x0 15 1920 (by decide) rfl _ _ rfl _ y (fun _ => ?_) (by omega)
  refine sel_step x0 14 1792 (by decide) rfl _ _ rfl _ y (fun _ => ?_) (by omega)
  refine sel_step x0 13 1664 (by decide) rfl _ _ rfl _ y (fun _ => ?_) (by omega)
  refine sel_step x0 12 1536 (by decide) rfl _ _ rfl _ y (fun _ => ?_) (by omega)
  refine sel_step x0 11 1408 (by decide) rfl _ _ rfl _ y (fun _ => ?_) (by omega)
  refine sel_step x0 10 1280 (by decide) rfl _ _ rfl _ y (fun _ => ?_) (by omega)
  refine sel_step x0 9 1152 (by decide) rfl _ _ rfl _ y (fun _ => ?_) (by omega)
  refine sel_step x0 8 1024 (by decide) rfl _ _ rfl _ y (fun _ => ?_) (by omega)
  refine sel_step x0 7 896 (by decide) rfl _ _ rfl _ y (fun _ => ?_) (by omega)
  refine sel_step x0 6 768 (by decide) rfl _ _ rfl _ y (fun _ => ?_) (by omega)
  refine sel_step x0 5 640 (by decide) rfl _ _ rfl _ y (fun _ => ?_) (by omega)
  refine sel_step x0 4 512 (by decide) rfl _ _ rfl _ y (fun _ => ?_) (by omega)
  refine sel_step x0 3 384 (by decide) rfl _ _ rfl _ y (fun _ => ?_) (by omega)
  refine sel_step x0 2 256 (by decide) rfl _ _ rfl _ y (fun _ => ?_) (by omega)
  refine sel_step x0 1 128 (by decide) rfl _ _ rfl _ y (fun _ => ?_) (by omega)
  refine sel_step x0 0 0 (by decide) rfl _ _ rfl _ y (fun _ => ?_) (by omega)
  omega

end Cert.KernelIdeal.Block

end
-- ==== Proof.BlockB4.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 4000000

/-- What the body leaves in output window 4 (the codes of the normalised latents) at a later grid point, the dequantised weights taken from the scratch. -/
theorem out_B_4 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : ¬cond0_0 i) (x0 : Vec F S256x8192 .bf16) (x1 : Vec F S576x8192 .fp8e4m3) (x2 : Vec F S5x64 .f32) (x3 : Vec F S512x1 .bf16) (xs0 : Vec F S576x8192 .bf16) :
    out0_B_4 c i arg1 harg1 arg2 harg2 arg3 harg3 arg4 harg4 arg5 harg5 arg6 harg6 arg7 harg7 arg8 harg8 arg9 harg9 arg10 harg10 arg11 harg11 hc0 x0 x1 x2 x3 xs0 = occ (norm (latent (dots xs0 (byCols gdeq x0))) x3) := by
  funext y
  frame_out
  canon_tiles x h
  · refine (congrArg (a₂ := byCols gdeq x0) (fun X => k0_pay1 (k0_pay921 (k0_pay905 (k0_pay901 xs0 X) (k0_pay903 xs0 X) k0_pay904 x3)) (k0_pay924 (k0_pay905 (k0_pay901 xs0 X) (k0_pay903 xs0 X) k0_pay904 x3)) k0_pay925 x) ?_).trans ?_
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots xs0 (byCols gdeq x0))) x3) 384 rfl (by omega) slices_S512x256_o384_0_S128x256 x y h0 (by omega)
  · refine (congrArg (a₂ := byCols gdeq x0) (fun X => k0_pay920 (k0_pay916 (k0_pay905 (k0_pay901 xs0 X) (k0_pay903 xs0 X) k0_pay904 x3)) (k0_pay919 (k0_pay905 (k0_pay901 xs0 X) (k0_pay903 xs0 X) k0_pay904 x3)) x) ?_).trans ?_
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots xs0 (byCols gdeq x0))) x3) 256 rfl (by omega) slices_S512x256_o256_0_S128x256 x y h0 (by omega)
  · refine (congrArg (a₂ := byCols gdeq x0) (fun X => k0_pay915 (k0_pay911 (k0_pay905 (k0_pay901 xs0 X) (k0_pay903 xs0 X) k0_pay904 x3)) (k0_pay914 (k0_pay905 (k0_pay901 xs0 X) (k0_pay903 xs0 X) k0_pay904 x3)) x) ?_).trans ?_
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots xs0 (byCols gdeq x0))) x3) 128 rfl (by omega) slices_S512x256_o128_0_S128x256 x y h0 (by omega)
  · refine (congrArg (a₂ := byCols gdeq x0) (fun X => k0_pay910 (k0_pay906 (k0_pay901 xs0 X) (k0_pay903 xs0 X) k0_pay904 x3) (k0_pay909 (k0_pay901 xs0 X) (k0_pay903 xs0 X) k0_pay904 x3) x) ?_).trans ?_
    · refine (readX _ _ _ (fun y => View.cover_of_tiledL _ ![256, 128] (by sl_kernel_rfl) y)).trans ?_
      funext z
      canon_tiles x' h'
      all_goals (refine tile_of gdeq x0 _ ?_ _ x' z h'0 ?_ <;> omega)
    · exact rows_of (norm (latent (dots xs0 (byCols gdeq x0))) x3) 0 rfl (by omega) slices_S512x256_o0_0_S128x256 x y h0 (by omega)

end Cert.KernelIdeal.Block

end
-- ==== Proof.BlockB5.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 4000000

/-- What the body leaves in output window 5 (the scales of the normalised latents) at a later grid point, the dequantised weights taken from the scratch. -/
theorem out_B_5 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : ¬cond0_0 i) (x0 : Vec F S256x8192 .bf16) (x1 : Vec F S576x8192 .fp8e4m3) (x2 : Vec F S5x64 .f32) (x3 : Vec F S512x1 .bf16) (xs0 : Vec F S576x8192 .bf16) :
    out0_B_5 c i arg1 harg1 arg2 harg2 arg3 harg3 arg4 harg4 arg5 harg5 arg6 harg6 arg7 harg7 arg8 harg8 arg9 harg9 arg10 harg10 arg11 harg11 hc0 x0 x1 x2 x3 xs0 = ocs (norm (latent (dots xs0 (byCols gdeq x0))) x3) := by
  funext y
  frame_out
  refine (congrArg (a₂ := byCols gdeq x0) (fun X => k0_pay2 (k0_pay908 (k0_pay901 xs0 X) (k0_pay903 xs0 X) k0_pay904 x3) (k0_pay913 (k0_pay905 (k0_pay901 xs0 X) (k0_pay903 xs0 X) k0_pay904 x3)) (k0_pay918 (k0_pay905 (k0_pay901 xs0 X) (k0_pay903 xs0 X) k0_pay904 x3)) (k0_pay923 (k0_pay905 (k0_pay901 xs0 X) (k0_pay903 xs0 X) k0_pay904 x3)) y) ?_).trans ?_
  · refine (readX _ _ _ (fun y => View.cover_of_tiledL _ ![256, 128] (by sl_kernel_rfl) y)).trans ?_
    funext z
    canon_tiles x' h'
    all_goals (refine tile_of gdeq x0 _ ?_ _ x' z h'0 ?_ <;> omega)
  · rfl

end Cert.KernelIdeal.Block

end
-- ==== Proof.BlockB6.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 4000000

/-- What the body leaves in output window 6 (the rotary rows) at a later grid point, the dequantised weights taken from the scratch. -/
theorem out_B_6 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : ¬cond0_0 i) (x0 : Vec F S256x8192 .bf16) (x1 : Vec F S576x8192 .fp8e4m3) (x2 : Vec F S5x64 .f32) (x3 : Vec F S512x1 .bf16) (xs0 : Vec F S576x8192 .bf16) :
    out0_B_6 c i arg1 harg1 arg2 harg2 arg3 harg3 arg4 harg4 arg5 harg5 arg6 harg6 arg7 harg7 arg8 harg8 arg9 harg9 arg10 harg10 arg11 harg11 hc0 x0 x1 x2 x3 xs0 = kpe (dots xs0 (byCols gdeq x0)) := by
  funext y
  frame_out
  refine (congrArg (a₂ := byCols gdeq x0) (fun X => k0_pay902 xs0 X y) ?_).trans ?_
  · refine (readX _ _ _ (fun y => View.cover_of_tiledL _ ![256, 128] (by sl_kernel_rfl) y)).trans ?_
    funext z
    canon_tiles x' h'
    all_goals (refine tile_of gdeq x0 _ ?_ _ x' z h'0 ?_ <;> omega)
  · rfl

end Cert.KernelIdeal.Block

end
-- ==== Proof.BlockB7.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 4000000

/-- What the body leaves in output window 7 (the activations' codes) at a later grid point, the dequantised weights taken from the scratch. -/
theorem out_B_7 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : ¬cond0_0 i) (x0 : Vec F S256x8192 .bf16) (x1 : Vec F S576x8192 .fp8e4m3) (x2 : Vec F S5x64 .f32) (x3 : Vec F S512x1 .bf16) (xs0 : Vec F S576x8192 .bf16) :
    out0_B_7 c i arg1 harg1 arg2 harg2 arg3 harg3 arg4 harg4 arg5 harg5 arg6 harg6 arg7 harg7 arg8 harg8 arg9 harg9 arg10 harg10 arg11 harg11 hc0 x0 x1 x2 x3 xs0 = byCols gcode x0 := by
  funext y
  frame_out
  canon_tiles x h
  all_goals (refine tile_of gcode x0 _ ?_ _ x y h0 ?_ <;> omega)

end Cert.KernelIdeal.Block

end
-- ==== Proof.BlockB8.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Tiles

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

set_option maxHeartbeats 4000000

/-- What the body leaves in output window 8 (the activations' scales) at a later grid point, the dequantised weights taken from the scratch. -/
theorem out_B_8 (c : Dev nD) (i : grid0.Coords) (arg1 : Memref sig .tc .vmem S256x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x1 .bf16) (harg4 : arg4.IsWhole) (arg5 : Memref sig .tc .vmem S256x512 .fp8e4m3) (harg5 : arg5.IsWhole) (arg6 : Memref sig .tc .vmem S256x4 .f32) (harg6 : arg6.IsWhole) (arg7 : Memref sig .tc .vmem S256x64 .bf16) (harg7 : arg7.IsWhole) (arg8 : Memref sig .tc .vmem S256x8192 .fp8e4m3) (harg8 : arg8.IsWhole) (arg9 : Memref sig .tc .vmem S256x64 .f32) (harg9 : arg9.IsWhole) (arg10 : Memref sig .tc .vmem S576x8192 .bf16) (harg10 : arg10.IsWhole) (arg11 : Memref sig .tc .vmem S256x8192 .bf16) (harg11 : arg11.IsWhole) (hc0 : ¬cond0_0 i) (x0 : Vec F S256x8192 .bf16) (x1 : Vec F S576x8192 .fp8e4m3) (x2 : Vec F S5x64 .f32) (x3 : Vec F S512x1 .bf16) (xs0 : Vec F S576x8192 .bf16) :
    out0_B_8 c i arg1 harg1 arg2 harg2 arg3 harg3 arg4 harg4 arg5 harg5 arg6 harg6 arg7 harg7 arg8 harg8 arg9 harg9 arg10 harg10 arg11 harg11 hc0 x0 x1 x2 x3 xs0 = oxs x0 := by
  funext y
  have hy : (y 1).val < 64 := (y 1).isLt
  frame_out
  refine sel_step x0 63 8064 (by decide) rfl _ _ rfl _ y (fun _ => ?_) (by omega)
  refine sel_step x0 62 7936 (by decide) rfl _ _ rfl _ y (fun _ => ?_) (by omega)
  refine sel_step x0 61 7808 (by decide) rfl _ _ rfl _ y (fun _ => ?_) (by omega)
  refine sel_step x0 60 7680 (by decide) rfl _ _ rfl _ y (fun _ => ?_) (by omega)
  refine sel_step x0 59 7552 (by decide) rfl _ _ rfl _ y (fun _ => ?_) (by omega)
  refine sel_step x0 58 7424 (by decide) rfl _ _ rfl _ y (fun _ => ?_) (by omega)
  refine sel_step x0 57 7296 (by decide) rfl _ _ rfl _ y (fun _ => ?_) (by omega)
  refine sel_step x0 56 7168 (by decide) rfl _ _ rfl _ y (fun _ => ?_) (by omega)
  refine sel_step x0 55 7040 (by decide) rfl _ _ rfl _ y (fun _ => ?_) (by omega)
  refine sel_step x0 54 6912 (by decide) rfl _ _ rfl _ y (fun _ => ?_) (by omega)
  refine sel_step x0 53 6784 (by decide) rfl _ _ rfl _ y (fun _ => ?_) (by omega)
  refine sel_step x0 52 6656 (by decide) rfl _ _ rfl _ y (fun _ => ?_) (by omega)
  refine sel_step x0 51 6528 (by decide) rfl _ _ rfl _ y (fun _ => ?_) (by omega)
  refine sel_step x0 50 6400 (by decide) rfl _ _ rfl _ y (fun _ => ?_) (by omega)
  refine sel_step x0 49 6272 (by decide) rfl _ _ rfl _ y (fun _ => ?_) (by omega)
  refine sel_step x0 48 6144 (by decide) rfl _ _ rfl _ y (fun _ => ?_) (by omega)
  refine sel_step x0 47 6016 (by decide) rfl _ _ rfl _ y (fun _ => ?_) (by omega)
  refine sel_step x0 46 5888 (by decide) rfl _ _ rfl _ y (fun _ => ?_) (by omega)
  refine sel_step x0 45 5760 (by decide) rfl _ _ rfl _ y (fun _ => ?_) (by omega)
  refine sel_step x0 44 5632 (by decide) rfl _ _ rfl _ y (fun _ => ?_) (by omega)
  refine sel_step x0 43 5504 (by decide) rfl _ _ rfl _ y (fun _ => ?_) (by omega)
  refine sel_step x0 42 5376 (by decide) rfl _ _ rfl _ y (fun _ => ?_) (by omega)
  refine sel_step x0 41 5248 (by decide) rfl _ _ rfl _ y (fun _ => ?_) (by omega)
  refine sel_step x0 40 5120 (by decide) rfl _ _ rfl _ y (fun _ => ?_) (by omega)
  refine sel_step x0 39 4992 (by decide) rfl _ _ rfl _ y (fun _ => ?_) (by omega)
  refine sel_step x0 38 4864 (by decide) rfl _ _ rfl _ y (fun _ => ?_) (by omega)
  refine sel_step x0 37 4736 (by decide) rfl _ _ rfl _ y (fun _ => ?_) (by omega)
  refine sel_step x0 36 4608 (by decide) rfl _ _ rfl _ y (fun _ => ?_) (by omega)
  refine sel_step x0 35 4480 (by decide) rfl _ _ rfl _ y (fun _ => ?_) (by omega)
  refine sel_step x0 34 4352 (by decide) rfl _ _ rfl _ y (fun _ => ?_) (by omega)
  refine sel_step x0 33 4224 (by decide) rfl _ _ rfl _ y (fun _ => ?_) (by omega)
  refine sel_step x0 32 4096 (by decide) rfl _ _ rfl _ y (fun _ => ?_) (by omega)
  refine sel_step x0 31 3968 (by decide) rfl _ _ rfl _ y (fun _ => ?_) (by omega)
  refine sel_step x0 30 3840 (by decide) rfl _ _ rfl _ y (fun _ => ?_) (by omega)
  refine sel_step x0 29 3712 (by decide) rfl _ _ rfl _ y (fun _ => ?_) (by omega)
  refine sel_step x0 28 3584 (by decide) rfl _ _ rfl _ y (fun _ => ?_) (by omega)
  refine sel_step x0 27 3456 (by decide) rfl _ _ rfl _ y (fun _ => ?_) (by omega)
  refine sel_step x0 26 3328 (by decide) rfl _ _ rfl _ y (fun _ => ?_) (by omega)
  refine sel_step x0 25 3200 (by decide) rfl _ _ rfl _ y (fun _ => ?_) (by omega)
  refine sel_step x0 24 3072 (by decide) rfl _ _ rfl _ y (fun _ => ?_) (by omega)
  refine sel_step x0 23 2944 (by decide) rfl _ _ rfl _ y (fun _ => ?_) (by omega)
  refine sel_step x0 22 2816 (by decide) rfl _ _ rfl _ y (fun _ => ?_) (by omega)
  refine sel_step x0 21 2688 (by decide) rfl _ _ rfl _ y (fun _ => ?_) (by omega)
  refine sel_step x0 20 2560 (by decide) rfl _ _ rfl _ y (fun _ => ?_) (by omega)
  refine sel_step x0 19 2432 (by decide) rfl _ _ rfl _ y (fun _ => ?_) (by omega)
  refine sel_step x0 18 2304 (by decide) rfl _ _ rfl _ y (fun _ => ?_) (by omega)
  refine sel_step x0 17 2176 (by decide) rfl _ _ rfl _ y (fun _ => ?_) (by omega)
  refine sel_step x0 16 2048 (by decide) rfl _ _ rfl _ y (fun _ => ?_) (by omega)
  refine sel_step x0 15 1920 (by decide) rfl _ _ rfl _ y (fun _ => ?_) (by omega)
  refine sel_step x0 14 1792 (by decide) rfl _ _ rfl _ y (fun _ => ?_) (by omega)
  refine sel_step x0 13 1664 (by decide) rfl _ _ rfl _ y (fun _ => ?_) (by omega)
  refine sel_step x0 12 1536 (by decide) rfl _ _ rfl _ y (fun _ => ?_) (by omega)
  refine sel_step x0 11 1408 (by decide) rfl _ _ rfl _ y (fun _ => ?_) (by omega)
  refine sel_step x0 10 1280 (by decide) rfl _ _ rfl _ y (fun _ => ?_) (by omega)
  refine sel_step x0 9 1152 (by decide) rfl _ _ rfl _ y (fun _ => ?_) (by omega)
  refine sel_step x0 8 1024 (by decide) rfl _ _ rfl _ y (fun _ => ?_) (by omega)
  refine sel_step x0 7 896 (by decide) rfl _ _ rfl _ y (fun _ => ?_) (by omega)
  refine sel_step x0 6 768 (by decide) rfl _ _ rfl _ y (fun _ => ?_) (by omega)
  refine sel_step x0 5 640 (by decide) rfl _ _ rfl _ y (fun _ => ?_) (by omega)
  refine sel_step x0 4 512 (by decide) rfl _ _ rfl _ y (fun _ => ?_) (by omega)
  refine sel_step x0 3 384 (by decide) rfl _ _ rfl _ y (fun _ => ?_) (by omega)
  refine sel_step x0 2 256 (by decide) rfl _ _ rfl _ y (fun _ => ?_) (by omega)
  refine sel_step x0 1 128 (by decide) rfl _ _ rfl _ y (fun _ => ?_) (by omega)
  refine sel_step x0 0 0 (by decide) rfl _ _ rfl _ y (fun _ => ?_) (by omega)
  omega

end Cert.KernelIdeal.Block

end
-- ==== Proof.KernelOuts.lean ====
module

public import proofs.«01_k».proof.Proof.Gen.KernelIdeal.Value
public import Idealize.ShloMosaic.Lib.Pipeline.ValueKit
public import proofs.«01_k».proof.Proof.BlockA4
public import proofs.«01_k».proof.Proof.BlockA5
public import proofs.«01_k».proof.Proof.BlockA6
public import proofs.«01_k».proof.Proof.BlockA7
public import proofs.«01_k».proof.Proof.BlockA8
public import proofs.«01_k».proof.Proof.BlockB4
public import proofs.«01_k».proof.Proof.BlockB5
public import proofs.«01_k».proof.Proof.BlockB6
public import proofs.«01_k».proof.Proof.BlockB7
public import proofs.«01_k».proof.Proof.BlockB8

@[expose] public section

set_option maxRecDepth 16384

/-! # What every grid point of the kernel leaves

The first point fills the scratch with the dequantised weights; the others keep it. So each point leaves the same functions
of its own rows, the weights, their scales and gamma. -/

noncomputable section

namespace Cert.KernelIdeal.Block

open Cert.KernelIdeal Cert.KernelIdeal.Gen Idealize.ShloMosaic Idealize.ShloMosaic.TcCoe

variable {F : FTy → Type} [FloatOps F]
variable (m : (ℓ : Loc nD τ sig) → Buf (Elt F) ℓ)

/-- The five outputs and the scratch from the rows, the dequantised weights and gamma. -/
def tuple (x : Vec F S256x8192 .bf16) (W : Vec F S576x8192 .bf16) (g : Vec F S512x1 .bf16) :
    Vec F S256x512 .fp8e4m3 × Vec F S256x4 .f32 × Vec F S256x64 .bf16 × Vec F S256x8192 .fp8e4m3 × Vec F S256x64 .f32 × Vec F S576x8192 .bf16 :=
  (occ (norm (latent (dots W (byCols gdeq x))) g), ocs (norm (latent (dots W (byCols gdeq x))) g), kpe (dots W (byCols gdeq x)),
    byCols gcode x, oxs x, W)

/-- What the first point leaves, the scratch filled from its weights. -/
theorem step_A (c : Dev nD) (t : Fin cfg0.N) (acc) (h0 : t.val % 96 = 0) :
    Value.stAt0 m c t.val t.isLt acc = tuple (iblk m c 0 t) (wdeq (iblk m c 1 t) (iblk m c 2 t)) (iblk m c 3 t) := by
  rw [Value.stAt0_A m c t acc h0, out_A_4, out_A_5, out_A_6, out_A_7, out_A_8, sout_A]
  rfl

/-- What a later point leaves, the scratch as it found it. -/
theorem step_B (c : Dev nD) (t : Fin cfg0.N) (acc) (h0 : ¬t.val % 96 = 0) :
    Value.stAt0 m c t.val t.isLt acc = tuple (iblk m c 0 t) acc.2.2.2.2.2 (iblk m c 3 t) := by
  rw [Value.stAt0_B m c t acc h0, out_B_4, out_B_5, out_B_6, out_B_7, out_B_8]
  rfl

/-- Window 1 stays on block 0, -/
theorem index1 : ∀ (t : Fin cfg0.N) (a : Fin 2), win0_1.index t a = 0 :=
  (by decide +kernel : ∀ (t : Fin grid0.N) (a : Fin 2), win0_1.index t a = 0)

/-- window 2 too, -/
theorem index2 : ∀ (t : Fin cfg0.N) (a : Fin 2), win0_2.index t a = 0 :=
  (by decide +kernel : ∀ (t : Fin grid0.N) (a : Fin 2), win0_2.index t a = 0)

/-- and window 3. -/
theorem index3 : ∀ (t : Fin cfg0.N) (a : Fin 2), win0_3.index t a = 0 :=
  (by decide +kernel : ∀ (t : Fin grid0.N) (a : Fin 2), win0_3.index t a = 0)

/-- The windows of the weights, their scales and gamma take the whole arrays at every point. -/
theorem const1 (c : Dev nD) (t : Fin cfg0.N) (y : S576x8192.Idx) : iblk m c 1 t y = V m c main_arg1 y := by
  blk_ext [iblk, index1 t]

theorem const2 (c : Dev nD) (t : Fin cfg0.N) (y : S5x64.Idx) : iblk m c 2 t y = V m c main_arg2 y := by
  blk_ext [iblk, index2 t]

theorem const3 (c : Dev nD) (t : Fin cfg0.N) (y : S512x1.Idx) : iblk m c 3 t y = V m c main_v1 y := by
  blk_ext [iblk, index3 t]

end Cert.KernelIdeal.Block

end
-- ==== Proof.Scale.lean ====
module

public import Idealize.ShloMosaic.PureOps.Ideal
public import Idealize.ShloMosaic.Lib.IdealHost
public import Idealize.ShloMosaic.Lib.WordSum

@[expose] public section

set_option maxRecDepth 16384

/-! # Powers of two as scales

The scalar mathematics of the power-of-two quantiser. `y` is a group's largest magnitude over 448. -/

noncomputable section

namespace Cert.Scale

open Idealize.ShloMosaic

/-- A positive normal pattern with no fraction is a power of two. -/
theorem ieee_normal (e m : Nat) {w : Nat} (b : BitVec w) (k : Nat) (hs : b.extractLsb' (e + m) 1 = 0#1)
    (he : (b.extractLsb' m e).toNat = k) (hf : (b.extractLsb' 0 m).toNat = 0) (h1 : k ≠ 2 ^ e - 1) (h0 : k ≠ 0) :
    Ideal.ieee e m b = (((2 : ℝ) ^ ((k : ℤ) - (2 ^ (e - 1) - 1)) : ℝ) : EReal) := by
  unfold Ideal.ieee
  simp only [hs, he, hf]
  rw [if_neg h1, if_neg h0]
  congr 1
  have h : (2 : ℝ) ^ ((k : ℤ) - (2 ^ (e - 1) - 1)) = (2 : ℝ) ^ (m : ℤ) * (2 : ℝ) ^ ((k : ℤ) - (2 ^ (e - 1) - 1) - m) := by
    rw [← zpow_add₀ (by norm_num)]
    congr 1
    ring
  rw [h, zpow_natCast]
  simp

/-- The pattern with exponent field `k` (`1 ≤ k ≤ 254`) and no fraction is `2^(k - 127)`. -/
theorem ofBits_field (k : Nat) (h1 : 1 ≤ k) (h2 : k ≤ 254) :
    Ideal.ofBits .f32 (BitVec.ofNat 32 k <<< 23) = (((2 : ℝ) ^ ((k : ℤ) - 127) : ℝ) : EReal) := by
  have hs : (BitVec.ofNat 32 k <<< 23).extractLsb' (8 + 23) 1 = 0#1 := by
    apply BitVec.eq_of_toNat_eq; simp [Nat.shiftLeft_eq, Nat.shiftRight_eq_div_pow]; omega
  have he : ((BitVec.ofNat 32 k <<< 23).extractLsb' 23 8).toNat = k := by
    simp [Nat.shiftLeft_eq, Nat.shiftRight_eq_div_pow]; omega
  have hf : ((BitVec.ofNat 32 k <<< 23).extractLsb' 0 23).toNat = 0 := by
    simp [Nat.shiftLeft_eq]
  exact ieee_normal 8 23 _ k hs he hf (by omega) (by omega)

/-- The pattern with the exponent field all ones and no fraction is `+∞`. -/
theorem ofBits_field_top : Ideal.ofBits .f32 (BitVec.ofNat 32 255 <<< 23) = ⊤ := by
  simp [Ideal.ofBits, Ideal.ieee]

/-- The word the kernel counts with: 1 where `y` reaches the power of two with exponent field `k + 1`. -/
def bit (y : EReal) (k : Fin 255) : BitVec 32 :=
  (Ideal.cmp .oge y (Ideal.ofBits .f32 (BitVec.ofNat 32 (k.val + 1) <<< 23))).setWidth 32

/-- The number of powers of two that `y` reaches, as the kernel sums it. -/
def count (y : EReal) : BitVec 32 := (Finset.univ : Finset (Fin 255)).fold IntOp.addi 0#32 (bit y)

/-- The exponent the kernel reads off the count. -/
def kexp (y : EReal) : BitVec 32 := if count y = 0#32 then 0#32 else count y - 126#32

/-- The kernel's scale: the power of two built from its exponent field. -/
def kscale (y : EReal) : EReal := Ideal.ofBits .f32 ((127#32 + kexp y) <<< 23)

/-- The kernel's inverse scale. -/
def kinv (y : EReal) : EReal := Ideal.ofBits .f32 ((127#32 - kexp y) <<< 23)

/-- The reference's exponent. -/
def rexp (y : EReal) : EReal :=
  if y < Ideal.ofBits .f32 0x00800000#32 then 0
  else Ideal.liftRound Int.floor (Ideal.div (Ideal.log y) (Ideal.log (Ideal.ofBits .f32 0x40000000#32))) + 1

/-- The reference's scale. -/
def rscale (y : EReal) : EReal := Ideal.exp2 (rexp y)

/-- The reference's inverse scale. -/
def rinv (y : EReal) : EReal := Ideal.exp2 (0 - rexp y)

/-- `r` lies in binade `n`: below every normal number at `n = 0`. -/
structure Binade (r : ℝ) (n : Nat) : Prop where
  le : n ≤ 252
  lower : 1 ≤ n → (2 : ℝ) ^ ((n : ℤ) - 127) ≤ r
  upper : r < (2 : ℝ) ^ ((n : ℤ) - 126)
  nonneg : 0 ≤ r

theorem exists_binade (r : ℝ) (h0 : 0 ≤ r) (h : r < (2 : ℝ) ^ (126 : ℤ)) : ∃ n, Binade r n := by
  by_cases hr : r < (2 : ℝ) ^ (-126 : ℤ)
  · exact ⟨0, by omega, fun h => by omega, by simpa using hr, h0⟩
  · rw [not_lt] at hr
    have hp : 0 < r := lt_of_lt_of_le (by positivity) hr
    obtain ⟨g, h1, h2⟩ := exists_mem_Ico_zpow hp (by norm_num : (1 : ℝ) < 2)
    have hlo : -126 < g + 1 := (zpow_lt_zpow_iff_right₀ (by norm_num : (1 : ℝ) < 2)).mp (lt_of_le_of_lt hr h2)
    have hhi : g < 126 := (zpow_lt_zpow_iff_right₀ (by norm_num : (1 : ℝ) < 2)).mp (lt_of_le_of_lt h1 h)
    have hc : (((g + 127).toNat : ℕ) : ℤ) = g + 127 := Int.toNat_of_nonneg (by omega)
    refine ⟨(g + 127).toNat, by omega, fun _ => ?_, ?_, h0⟩
    · rw [hc, show g + 127 - 127 = g by ring]; exact h1
    · rw [hc, show g + 127 - 126 = g + 1 by ring]; exact h2

theorem bit_eq (r : ℝ) (n : Nat) (h : Binade r n) (k : Fin 255) : bit (r : EReal) k = if k.val < n then 1 else 0 := by
  have hn := h.le
  have hk := k.isLt
  unfold bit
  rcases Nat.lt_or_ge k.val 254 with hk' | hk'
  · rw [ofBits_field _ (by omega) (by omega)]
    by_cases hlt : k.val < n
    · rw [if_pos hlt]
      have : (2 : ℝ) ^ (((k.val + 1 : ℕ) : ℤ) - 127) ≤ r :=
        le_trans (zpow_le_zpow_right₀ (by norm_num) (by omega)) (h.lower (by omega))
      simp only [Ideal.cmp, EReal.coe_le_coe_iff, this]
      rfl
    · rw [if_neg hlt]
      have : ¬ (2 : ℝ) ^ (((k.val + 1 : ℕ) : ℤ) - 127) ≤ r := by
        rw [not_le]
        exact lt_of_lt_of_le h.upper (zpow_le_zpow_right₀ (by norm_num) (by omega))
      simp only [Ideal.cmp, EReal.coe_le_coe_iff, this]
      rfl
  · have : k.val = 254 := by omega
    rw [this, ofBits_field_top, if_neg (by omega)]
    simp [Ideal.cmp]

theorem fold_addi {ι : Type} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

theorem count_eq (r : ℝ) (n : Nat) (h : Binade r n) : count (r : EReal) = BitVec.ofNat 32 n := by
  unfold count
  rw [show bit (r : EReal) = fun k : Fin 255 => if k.val < n then (1 : BitVec 32) else 0 from funext (bit_eq r n h)]
  rw [fold_addi, Finset.sum_boole]
  have hc : (Finset.univ.filter fun k : Fin 255 => k.val < n).card = n := by
    have := h.le
    rw [Fin.card_filter_val_lt]; omega
  rw [hc]
  rfl

/-- The exponent of binade `n`. -/
def expOf (n : Nat) : ℤ := if n = 0 then 0 else (n : ℤ) - 126

theorem kscale_eq (r : ℝ) (n : Nat) (h : Binade r n) : kscale (r : EReal) = (((2 : ℝ) ^ expOf n : ℝ) : EReal) := by
  have hn := h.le
  unfold kscale kexp
  rw [count_eq r n h]
  by_cases h0 : n = 0
  · subst h0
    rw [if_pos rfl, show (127#32 + 0#32) = BitVec.ofNat 32 127 from rfl, ofBits_field _ (by omega) (by omega)]
    simp [expOf]
  · have hne : BitVec.ofNat 32 n ≠ 0#32 := by
      intro hc
      have := congrArg BitVec.toNat hc
      simp at this; omega
    have hw : 127#32 + (BitVec.ofNat 32 n - 126#32) = BitVec.ofNat 32 (n + 1) := by
      apply BitVec.eq_of_toNat_eq; simp; omega
    rw [if_neg hne, hw, ofBits_field _ (by omega) (by omega), expOf, if_neg h0]
    rw [show (((n + 1 : ℕ) : ℤ) - 127) = (n : ℤ) - 126 by push_cast; ring]

theorem kinv_eq (r : ℝ) (n : Nat) (h : Binade r n) : kinv (r : EReal) = (((2 : ℝ) ^ (-expOf n) : ℝ) : EReal) := by
  have hn := h.le
  unfold kinv kexp
  rw [count_eq r n h]
  by_cases h0 : n = 0
  · subst h0
    rw [if_pos rfl, show (127#32 - 0#32) = BitVec.ofNat 32 127 from rfl, ofBits_field _ (by omega) (by omega)]
    simp [expOf]
  · have hne : BitVec.ofNat 32 n ≠ 0#32 := by
      intro hc
      have := congrArg BitVec.toNat hc
      simp at this; omega
    have hw : 127#32 - (BitVec.ofNat 32 n - 126#32) = BitVec.ofNat 32 (253 - n) := by
      apply BitVec.eq_of_toNat_eq; simp; omega
    rw [if_neg hne, hw, ofBits_field _ (by omega) (by omega), expOf, if_neg h0]
    rw [show (((253 - n : ℕ) : ℤ) - 127) = -((n : ℤ) - 126) by omega]

theorem ofBits_two : Ideal.ofBits .f32 0x40000000#32 = ((2 : ℝ) : EReal) := by
  rw [show (0x40000000#32 : BitVec 32) = BitVec.ofNat 32 128 <<< 23 by decide, ofBits_field _ (by omega) (by omega)]
  norm_num

theorem ofBits_least : Ideal.ofBits .f32 0x00800000#32 = (((2 : ℝ) ^ (-126 : ℤ) : ℝ) : EReal) := by
  rw [show (0x00800000#32 : BitVec 32) = BitVec.ofNat 32 1 <<< 23 by decide, ofBits_field _ (by omega) (by omega)]
  norm_num

theorem rexp_eq (r : ℝ) (n : Nat) (h : Binade r n) : rexp (r : EReal) = (((expOf n : ℤ) : ℝ) : EReal) := by
  unfold rexp
  rw [ofBits_least, ofBits_two]
  by_cases h0 : n = 0
  · subst h0
    have := h.upper
    rw [if_pos (EReal.coe_lt_coe_iff.mpr (by simpa using this))]
    simp [expOf]
  · have hl := h.lower (by omega)
    have hu := h.upper
    have hp : 0 < r := lt_of_lt_of_le (by positivity) hl
    have hle : (2 : ℝ) ^ (-126 : ℤ) ≤ r := le_trans (zpow_le_zpow_right₀ (by norm_num) (by omega)) hl
    have hlog2 : 0 < Real.log 2 := Real.log_pos (by norm_num)
    rw [if_neg (by rw [EReal.coe_lt_coe_iff]; exact not_lt.mpr hle)]
    have e1 : Ideal.log (r : EReal) = ((Real.log r : ℝ) : EReal) := by
      show (if r ≤ 0 then ⊥ else ((Real.log r : ℝ) : EReal)) = _
      rw [if_neg (not_le.mpr hp)]
    have e2 : Ideal.log ((2 : ℝ) : EReal) = ((Real.log 2 : ℝ) : EReal) := by
      show (if (2 : ℝ) ≤ 0 then ⊥ else ((Real.log 2 : ℝ) : EReal)) = _
      rw [if_neg (by norm_num)]
    have e3 : Ideal.div ((Real.log r : ℝ) : EReal) ((Real.log 2 : ℝ) : EReal) = ((Real.log r / Real.log 2 : ℝ) : EReal) := by
      unfold Ideal.div
      rw [if_neg (by exact_mod_cast hlog2.ne'), ← EReal.coe_inv, ← EReal.coe_mul]; rfl
    have e4 : ⌊Real.log r / Real.log 2⌋ = (n : ℤ) - 127 := by
      rw [Int.floor_eq_iff]
      constructor
      · rw [le_div_iff₀ hlog2, ← Real.log_zpow]
        exact Real.log_le_log (by positivity) hl
      · rw [div_lt_iff₀ hlog2, show (((n : ℤ) - 127 : ℤ) : ℝ) + 1 = (((n : ℤ) - 126 : ℤ) : ℝ) by push_cast; ring, ← Real.log_zpow]
        exact Real.log_lt_log hp hu
    rw [e1, e2, e3]
    show (((⌊Real.log r / Real.log 2⌋ : ℤ) : ℝ) : EReal) + ((1 : ℝ) : EReal) = _
    rw [e4, ← EReal.coe_add, expOf, if_neg h0]
    congr 1; push_cast; ring

/-- The two scales of a magnitude below `2^126` agree. -/
theorem scale_eq (r : ℝ) (h0 : 0 ≤ r) (h : r < (2 : ℝ) ^ (126 : ℤ)) : kscale (r : EReal) = rscale (r : EReal) := by
  obtain ⟨n, hn⟩ := exists_binade r h0 h
  rw [kscale_eq r n hn, rscale, rexp_eq r n hn]
  show _ = ((Real.rpow 2 ((expOf n : ℤ) : ℝ) : ℝ) : EReal)
  rw [show Real.rpow 2 ((expOf n : ℤ) : ℝ) = (2 : ℝ) ^ ((expOf n : ℤ) : ℝ) from rfl, Real.rpow_intCast]

/-- The two inverse scales of a magnitude below `2^126` agree. -/
theorem inv_eq (r : ℝ) (h0 : 0 ≤ r) (h : r < (2 : ℝ) ^ (126 : ℤ)) : kinv (r : EReal) = rinv (r : EReal) := by
  obtain ⟨n, hn⟩ := exists_binade r h0 h
  rw [kinv_eq r n hn, rinv, rexp_eq r n hn]
  show _ = Ideal.exp2 (((0 : ℝ) : EReal) - (((expOf n : ℤ) : ℝ) : EReal))
  rw [← EReal.coe_sub]
  show _ = ((Real.rpow 2 (0 - ((expOf n : ℤ) : ℝ)) : ℝ) : EReal)
  rw [show Real.rpow 2 (0 - ((expOf n : ℤ) : ℝ)) = (2 : ℝ) ^ (((-expOf n : ℤ)) : ℝ) by push_cast; rw [zero_sub]; rfl, Real.rpow_intCast]

end Cert.Scale

end
-- ==== Proof.Rows.lean ====
module

public import proofs.«01_k».proof.Proof.Scale

@[expose] public section

noncomputable section

namespace Cert.Rows

open Idealize.ShloMosaic

/-- 448 and its negative, the two ends of the code range. -/
def top : EReal := Ideal.ofBits .f32 1138753536#32
def bot : EReal := Ideal.ofBits .f32 3286237184#32

/-- The largest magnitude of group `g` of a row of activations, over 448. -/
def xmax (x : Fin 8192 → EReal) (g : Fin 64) : EReal :=
  Finset.univ.fold max (Ideal.ofBits .bf16 65408#16)
    (fun k : Fin 128 => (FloatOps.absf (F := Ideal) (φ := .bf16) (x ⟨g.val * 128 + k.val, by omega⟩) : EReal)) * Ideal.ofBits .f32 991054117#32

/-- The largest magnitude of group `g` of a normalised row, over 448. -/
def omax (n : Fin 512 → EReal) (g : Fin 4) : EReal :=
  Finset.univ.fold max (Ideal.ofBits .f32 4286578688#32)
    (fun k : Fin 128 => (FloatOps.absf (F := Ideal) (φ := .f32) (n ⟨g.val * 128 + k.val, by omega⟩) : EReal)) * Ideal.ofBits .f32 991054117#32

/-- A dequantised weight: its code times its block's scale. -/
def wd (w : Fin 576 → Fin 8192 → EReal) (s : Fin 5 → Fin 64 → EReal) (o : Fin 576) (d : Fin 8192) : EReal :=
  w o d * s ⟨o.val / 128, by omega⟩ ⟨d.val / 128, by omega⟩

/-- A row normalised by its root mean square, times gamma. -/
def nrm (c γ : Fin 512 → EReal) (o : Fin 512) : EReal :=
  c o * Ideal.rsqrt (Ideal.div (∑ k, c k * c k) (Ideal.ofBits .f32 1140850688#32) + Ideal.ofBits .f32 897988541#32) * γ o

section
variable (S I : EReal → EReal)

/-- The code of element `d` of a row, the inverse scale by `I`. -/
def code (x : Fin 8192 → EReal) (d : Fin 8192) : EReal :=
  min top (max bot (x d * I (xmax x ⟨d.val / 128, by omega⟩)))

/-- The same dequantised, the scale by `S`. -/
def deq (x : Fin 8192 → EReal) (d : Fin 8192) : EReal :=
  code I x d * S (xmax x ⟨d.val / 128, by omega⟩)

/-- A row's product with weight row `o`. -/
def dot (x : Fin 8192 → EReal) (w : Fin 576 → Fin 8192 → EReal) (s : Fin 5 → Fin 64 → EReal) (o : Fin 576) : EReal :=
  ∑ d, wd w s o d * deq S I x d

/-- The normalised latent row. -/
def lat (x : Fin 8192 → EReal) (w : Fin 576 → Fin 8192 → EReal) (s : Fin 5 → Fin 64 → EReal) (γ : Fin 512 → EReal) : Fin 512 → EReal :=
  nrm (fun o => dot S I x w s ⟨o.val, by omega⟩) γ

/-- The code of element `o` of a normalised row. -/
def ocode (n : Fin 512 → EReal) (o : Fin 512) : EReal :=
  min top (max bot (n o * I (omax n ⟨o.val / 128, by omega⟩)))

end

end Cert.Rows

end
-- ==== Proof.KernelRows.lean ====
module

public import proofs.«01_k».proof.Proof.Tiles
public import proofs.«01_k».proof.Proof.Rows

@[expose] public section

set_option maxRecDepth 16384

/-! # The kernel's block functions, row by row, over the extended reals -/

noncomputable section

namespace Cert.KernelIdeal.Block

open Cert.KernelIdeal Cert.KernelIdeal.Gen Idealize.ShloMosaic Idealize.ShloMosaic.TcCoe
open Cert.Rows Cert.Scale

/-- The kernel's word of field `k + 1` with an empty mantissa: a power of two. -/
theorem power (k : Nat) : IntOp.shli ArithUnit.vector (IntOp.addi (BitVec.ofNat 32 k) 1#32) 23#32 = BitVec.ofNat 32 (k + 1) <<< 23 := by
  have e : IntOp.addi (BitVec.ofNat 32 k) 1#32 = BitVec.ofNat 32 (k + 1) := by
    show BitVec.ofNat 32 k + 1#32 = _
    rw [BitVec.ofNat_add]
  rw [e]
  rfl

/-- The kernel's sum of comparisons is the count of the powers of two that are at most `y`. -/
theorem count_of (y : EReal) : Finset.fold IntOp.addi (0#32) (fun x : Fin 255 => BitVec.setWidth 32 (BitVec.ofBool
    (decide (Ideal.ofBits FTy.f32 (BitVec.ofNat 32 (x.val + 1) <<< 23) ≤ y)))) Finset.univ = Cert.Scale.count y := by
  unfold Cert.Scale.count
  refine Finset.fold_congr fun k _ => ?_
  unfold bit Ideal.cmp
  rfl

/-- The exponent from the count: zero of zero, else the count less 126. -/
theorem exp_of (c : BitVec 32) : Scalar.select (IntOp.cmpi CmpIPredicate.eq c 0#32) (0#32) (IntOp.subi c 126#32) = if c = 0#32 then 0#32 else c - 126#32 := by
  by_cases h : c = 0#32
  · rw [if_pos h, h]; rfl
  · rw [if_neg h]
    simp [Scalar.select, IntOp.cmpi, beq_eq_false_iff_ne.mpr h, IntOp.subi]

/-- The word of the scale, -/
theorem scale_of (e : BitVec 32) : IntOp.shli ArithUnit.vector (IntOp.addi 127#32 e) 23#32 = (127#32 + e) <<< 23 := rfl

/-- and that of its inverse. -/
theorem inv_of (e : BitVec 32) : IntOp.shli ArithUnit.vector (IntOp.subi 127#32 e) 23#32 = (127#32 - e) <<< 23 := rfl

/-- The scale of a group of activations, one row, -/
theorem gscale_at (y : FVec Ideal S256x1 .f32) (j : S256x1.Idx) : gscale y j = kscale (y (ix2 (j 0) 0)) := by
  unfold gscale gexp gcount
  pointwise
  simp only [power, count_of, exp_of, scale_of]
  unfold kscale kexp
  rfl

/-- and its inverse. -/
theorem ginv_at (y : FVec Ideal S256x1 .f32) (j : S256x1.Idx) : ginv y j = kinv (y (ix2 (j 0) 0)) := by
  unfold ginv gexp gcount
  pointwise
  simp only [power, count_of, exp_of, inv_of]
  unfold kinv kexp
  rfl

/-- The scale of a group of normalised latents, one row, -/
theorem oscale_at (y : FVec Ideal S1x256 .f32) (j : S1x256.Idx) : oscale y j = kscale (y (ix2 0 (j 1))) := by
  unfold oscale oexp ocount
  pointwise
  simp only [power, count_of, exp_of, scale_of]
  unfold kscale kexp
  rfl

/-- and its inverse. -/
theorem oinv_at (y : FVec Ideal S1x256 .f32) (j : S1x256.Idx) : oinv y j = kinv (y (ix2 0 (j 1))) := by
  unfold oinv oexp ocount
  pointwise
  simp only [power, count_of, exp_of, inv_of]
  unfold kinv kexp
  rfl

/-- Row `r` of a block. -/
def row (x : Vec Ideal S256x8192 .bf16) (r : Fin 256) : Fin 8192 → EReal := fun d => x (ix2 r d)

/-- The largest magnitude of group `g` of one row, over 448. -/
theorem gy_at (x : Vec Ideal S256x8192 .bf16) (g : Nat) (hg : g < 64) (h) (j : S256x1.Idx) :
    gy (cols x (128 * g) h) j = xmax (row x ⟨(j 0).val, (j 0).isLt⟩) ⟨g, hg⟩ := by
  unfold gy xmax
  pointwise
  refine congrArg (· * _) ?_
  refine Finset.fold_congr fun k _ => ?_
  refine congrArg _ ?_
  unfold cols row
  refine congrArg x ?_
  funext a
  apply Fin.ext
  match a with
  | ⟨0, _⟩ => rfl
  | ⟨1, _⟩ => show 128 * g + k.val = g * 128 + k.val; omega

/-- The codes of a block of rows, element by element. -/
theorem code_at (x : Vec Ideal S256x8192 .bf16) (y : S256x8192.Idx) :
    byCols gcode x y = code kinv (row x ⟨(y 0).val, (y 0).isLt⟩) ⟨(y 1).val, (y 1).isLt⟩ := by
  have hy : (y 1).val < 8192 := (y 1).isLt
  unfold byCols gcode
  pointwise
  rw [ginv_at, gy_at x _ (by omega)]
  unfold code
  refine congrArg (min _) (congrArg (max _) ?_)
  refine congrArg₂ (· * ·) ?_ rfl
  unfold cols row
  refine congrArg x ?_
  funext a
  apply Fin.ext
  match a with
  | ⟨0, _⟩ => rfl
  | ⟨1, _⟩ => show 128 * ((y 1).val / 128) + (y 1).val % 128 = (y 1).val; omega

/-- The dequantised activations of a block, element by element. -/
theorem deq_at (x : Vec Ideal S256x8192 .bf16) (y : S256x8192.Idx) :
    byCols gdeq x y = deq kscale kinv (row x ⟨(y 0).val, (y 0).isLt⟩) ⟨(y 1).val, (y 1).isLt⟩ := by
  have hy : (y 1).val < 8192 := (y 1).isLt
  have e : byCols gdeq x y = byCols gcode x y * gscale (gy (cols x (128 * ((y 1).val / 128)) (by omega))) (ix2 ⟨(y 0).val, (y 0).isLt⟩ 0) := by
    unfold byCols gdeq
    pointwise
  rw [e, code_at, gscale_at, gy_at x _ (by omega)]
  rfl

/-- The scales of the activations of a block, element by element. -/
theorem oxs_at (x : Vec Ideal S256x8192 .bf16) (y : S256x64.Idx) :
    oxs x y = kscale (xmax (row x ⟨(y 0).val, (y 0).isLt⟩) ⟨(y 1).val, (y 1).isLt⟩) := by
  unfold oxs xscale
  rw [gscale_at, gy_at x _ (y 1).isLt]
  rfl

/-- The weight codes and their scales by coordinates. -/
def wrow (w : Vec Ideal S576x8192 .fp8e4m3) : Fin 576 → Fin 8192 → EReal := fun o d => w (ix2 o d)
def srow (s : Vec Ideal S5x64 .f32) : Fin 5 → Fin 64 → EReal := fun o d => s (ix2 o d)
def grow (g : Vec Ideal S512x1 .bf16) : Fin 512 → EReal := fun o => g (ix2 o 0)

/-- The product of the dequantised weights and activations, element by element. -/
theorem dots_at (x : Vec Ideal S256x8192 .bf16) (w : Vec Ideal S576x8192 .fp8e4m3) (s : Vec Ideal S5x64 .f32) (j : S576x256.Idx) :
    dots (wdeq w s) (byCols gdeq x) j = dot kscale kinv (row x ⟨(j 1).val, (j 1).isLt⟩) (wrow w) (srow s) ⟨(j 0).val, (j 0).isLt⟩ := by
  have e : ∀ (a : Vec Ideal S576x8192 .bf16) (b : Vec Ideal S256x8192 .bf16), dots a b j = ∑ k, a (ix2 (j 0) k) * b (ix2 (j 1) k) := by
    intro a b
    unfold dots
    pointwise
  rw [e]
  unfold dot
  refine Finset.sum_congr rfl fun k _ => ?_
  rw [deq_at]
  refine congrArg₂ (· * ·) ?_ rfl
  unfold wdeq wd wrow srow
  pointwise

/-- The rotary columns are the last 64 rows of the product, transposed. -/
theorem kpe_at (d : FVec Ideal S576x256 .f32) (y : S256x64.Idx) :
    kpe d y = d (ix2 ⟨512 + (y 1).val, by have : (y 1).val < 64 := (y 1).isLt; omega⟩ ⟨(y 0).val, (y 0).isLt⟩) := by
  unfold kpe
  pointwise

/-- The normalised latents, element by element. -/
theorem norm_at (d : FVec Ideal S576x256 .f32) (g : Vec Ideal S512x1 .bf16) (j : S512x256.Idx) :
    norm (latent d) g j = nrm (fun o => d (ix2 ⟨o.val, by omega⟩ ⟨(j 1).val, (j 1).isLt⟩)) (grow g) ⟨(j 0).val, (j 0).isLt⟩ := by
  have e : ∀ (c : FVec Ideal S512x256 .f32), norm c g j = nrm (fun o => c (ix2 o ⟨(j 1).val, (j 1).isLt⟩)) (grow g) ⟨(j 0).val, (j 0).isLt⟩ := by
    intro c
    unfold norm nrm grow
    pointwise
  rw [e]
  refine congrArg (fun c => nrm c (grow g) _) ?_
  funext o
  unfold latent
  pointwise

/-- The largest magnitude of group `g` of a normalised row, over 448. -/
theorem oy_at (n : FVec Ideal S512x256 .f32) (g : Nat) (hg : g < 4) (h) (j : S1x256.Idx) :
    oy (rows n (128 * g) h) j = omax (fun o => n (ix2 o ⟨(j 1).val, (j 1).isLt⟩)) ⟨g, hg⟩ := by
  unfold oy omax
  pointwise
  refine congrArg (· * _) ?_
  refine Finset.fold_congr fun k _ => ?_
  refine congrArg _ ?_
  unfold rows
  refine congrArg n ?_
  funext a
  apply Fin.ext
  match a with
  | ⟨0, _⟩ => show 128 * g + k.val = g * 128 + k.val; omega
  | ⟨1, _⟩ => rfl

/-- The codes of the normalised latents, element by element. -/
theorem occ_at (n : FVec Ideal S512x256 .f32) (y : S256x512.Idx) :
    occ n y = Cert.Rows.ocode kinv (fun o => n (ix2 o ⟨(y 0).val, (y 0).isLt⟩)) ⟨(y 1).val, (y 1).isLt⟩ := by
  have hy : (y 1).val < 512 := (y 1).isLt
  unfold occ Cert.KernelIdeal.Block.ocode
  pointwise
  rw [oinv_at, oy_at n _ (by omega)]
  unfold Cert.Rows.ocode
  refine congrArg (min _) (congrArg (max _) ?_)
  refine congrArg₂ (· * ·) ?_ rfl
  unfold rows
  refine congrArg n ?_
  funext a
  apply Fin.ext
  match a with
  | ⟨0, _⟩ => show 128 * ((y 1).val / 128) + (y 1).val % 128 = (y 1).val; omega
  | ⟨1, _⟩ => rfl

/-- The scales of the normalised latents, element by element. -/
theorem ocs_at (n : FVec Ideal S512x256 .f32) (y : S256x4.Idx) :
    ocs n y = kscale (omax (fun o => n (ix2 o ⟨(y 0).val, (y 0).isLt⟩)) ⟨(y 1).val, (y 1).isLt⟩) := by
  have hy : (y 1).val < 4 := (y 1).isLt
  have key : ∀ (g : Nat) (hg : g < 4) (h) (k : S1x256.Idx), (k 1).val = (y 0).val → (y 1).val = g →
      oscale (oy (rows n (128 * g) h)) k = kscale (omax (fun o => n (ix2 o ⟨(y 0).val, (y 0).isLt⟩)) ⟨(y 1).val, (y 1).isLt⟩) := by
    intro g hg h k hk e
    rw [oscale_at, oy_at n g hg]
    have e1 : (⟨(y 1).val, (y 1).isLt⟩ : Fin 4) = ⟨g, hg⟩ := Fin.ext e
    rw [e1]
    have e2 : ∀ (a b : Nat) (ha : a < 256) (hb : b < 256), a = b → (fun o : Fin 512 => n (ix2 o ⟨a, ha⟩)) = fun o => n (ix2 o ⟨b, hb⟩) := by
      rintro a b ha hb rfl; rfl
    exact congrArg (fun f => kscale (omax f ⟨g, hg⟩)) (e2 _ _ _ _ hk)
  unfold ocs
  pointwise
  rw [slice_rows n 0 (by omega), slice_rows n 128 (by omega), slice_rows n 256 (by omega), slice_rows n 384 (by omega)]
  split
  · exact key 0 (by omega) _ _ rfl (by omega)
  split
  · exact key 1 (by omega) _ _ rfl (by omega)
  split
  · exact key 2 (by omega) _ _ rfl (by omega)
  split
  · exact key 3 (by omega) _ _ rfl (by omega)
  · omega

end Cert.KernelIdeal.Block

end
-- ==== Proof.KernelArrays.lean ====
module

public import proofs.«01_k».proof.Proof.KernelOuts
public import proofs.«01_k».proof.Proof.KernelRows
public import Idealize.ShloMosaic.Lib.Claim

@[expose] public section

set_option maxRecDepth 16384

/-! # The kernel's arrays after its run -/

noncomputable section

namespace Cert.KernelIdeal.Block

open Cert.KernelIdeal Cert.KernelIdeal.Gen Idealize.ShloMosaic Idealize.ShloMosaic.TcCoe
open Cert.Rows Cert.Scale

section
variable {F : FTy → Type} [FloatOps F] (m : (ℓ : Loc nD τ sig) → Buf (Elt F) ℓ)

/-- Every point leaves the same functions of its rows and of the whole weights, scales and gamma. -/
theorem outs_eq (c : Dev nD) : ∀ (n : ℕ) (hn : n < cfg0.N), outsAt0 m c n hn
    = tuple (iblk m c 0 ⟨n, hn⟩) (wdeq (V m c main_arg1) (V m c main_arg2)) (V m c main_v1)
  | 0, hn => by
    have e := step_A m c ⟨0, hn⟩ Value.junk0 (Nat.zero_mod _)
    rw [funext (const1 m c ⟨0, hn⟩), funext (const2 m c ⟨0, hn⟩), funext (const3 m c ⟨0, hn⟩)] at e
    exact (Value.outsAt0_zero m c hn).trans e
  | n + 1, hn => by
    have hN : n + 1 < 96 := lt_of_lt_of_eq hn (show cfg0.N = 96 from N_0)
    have e := step_B m c ⟨n + 1, hn⟩ (outsAt0 m c n (Nat.lt_of_succ_lt hn)) (by show ¬(n + 1) % 96 = 0; omega)
    rw [funext (const3 m c ⟨n + 1, hn⟩), outs_eq c n (Nat.lt_of_succ_lt hn)] at e
    rw [Value.outsAt0_succ, outs_eq c n (Nat.lt_of_succ_lt hn)]
    exact e

/-- The same of the generated fold over the points. -/
theorem acc_eq (c : Dev nD) (n : ℕ) (hn : n < cfg0.N) (h) : Pipeline.accAt (fun n h => Value.stAt0 m c n h Value.junk0) (Value.stAt0 m c) 0 n h
    = tuple (iblk m c 0 ⟨n, hn⟩) (wdeq (V m c main_arg1) (V m c main_arg2)) (V m c main_v1) :=
  (Value.outsAt0_sweep m c n hn).symm.trans (outs_eq m c n hn)

end

section
variable (m : (ℓ : Loc nD τ sig) → Buf (Elt Ideal) ℓ) (c : Dev nD)

/-- Row `r` of the activations, of the 8 by 3072 rows of the argument. -/
def argRow (x : Vec Ideal S8x3072x8192 .bf16) (r : Fin 24576) : Fin 8192 → EReal :=
  fun d => x (ix3 ⟨r.val / 3072, by omega⟩ ⟨r.val % 3072, Nat.mod_lt _ (by decide)⟩ d)

/-- The argument gamma by coordinates. -/
def argGamma (g : Vec Ideal S512 .bf16) : Fin 512 → EReal := fun o => g (ix1 o)

/-- Point `t` takes the `t`-th block of rows. -/
theorem index0 : ∀ (t : Fin cfg0.N), win0_0.index t 0 = t.val ∧ win0_0.index t 1 = 0 :=
  (by decide +kernel : ∀ (t : Fin grid0.N), win0_0.index t 0 = t.val ∧ win0_0.index t 1 = 0)

/-- The activations as the call takes them: the argument's two leading axes as one. -/
theorem entry0 (j : S24576x8192.Idx) : V m c main_v0 j
    = m ((c : Thread nD τ).loc main_arg0) (ix3 ⟨(j 0).val / 3072, by have : (j 0).val < 24576 := (j 0).isLt; omega⟩ ⟨(j 0).val % 3072, Nat.mod_lt _ (by decide)⟩ (j 1)) := by
  entry_read
  pointwise

/-- Row `r` of point `t`'s block is row `256 t + r` of the activations. -/
theorem row_eq (t : Fin cfg0.N) (r : Fin 24576) (s : Fin 256) (h : r.val = t.val * 256 + s.val) :
    row (iblk m c 0 t) s = argRow (m ((c : Thread nD τ).loc main_arg0)) r := by
  funext d
  show iblk m c 0 t (ix2 s d) = m ((c : Thread nD τ).loc main_arg0) (ix3 ⟨r.val / 3072, _⟩ ⟨r.val % 3072, _⟩ d)
  have e : iblk m c 0 t (ix2 s d) = V m c main_v0 (ix2 r d) := by
    blk_ext [iblk, (index0 t).1, (index0 t).2]
  rw [e]
  exact entry0 m c (ix2 r d)

/-- The call takes the weight codes as they are, -/
theorem wrow_eq : wrow (V m c main_arg1) = wrow (m ((c : Thread nD τ).loc main_arg1)) := by
  rw [V_main_arg1]

/-- their scales too, -/
theorem srow_eq : srow (V m c main_arg2) = srow (m ((c : Thread nD τ).loc main_arg2)) := by
  rw [V_main_arg2]

/-- and gamma as a column. -/
theorem grow_eq : grow (V m c main_v1) = argGamma (m ((c : Thread nD τ).loc main_arg3)) := by
  funext o
  show V m c main_v1 (ix2 o 0) = m ((c : Thread nD τ).loc main_arg3) (ix1 o)
  entry_read
  pointwise

/-- The arguments by rows. -/
abbrev X := argRow (m ((c : Thread nD τ).loc main_arg0))
abbrev W := wrow (m ((c : Thread nD τ).loc main_arg1))
abbrev S := srow (m ((c : Thread nD τ).loc main_arg2))
abbrev Γ := argGamma (m ((c : Thread nD τ).loc main_arg3))

/-- The normalised latents of row `s` of point `t` are those of row `256 t + s` of the activations. -/
theorem lat_at (t : Fin cfg0.N) (r : Fin 24576) (s : Fin 256) (h : r.val = t.val * 256 + s.val) :
    (fun o => norm (latent (dots (wdeq (V m c main_arg1) (V m c main_arg2)) (byCols gdeq (iblk m c 0 t)))) (V m c main_v1) (ix2 o s))
      = lat kscale kinv (X m c r) (W m c) (S m c) (Γ m c) := by
  funext o
  rw [norm_at, grow_eq]
  unfold lat
  refine congrArg (fun z => nrm z _ _) (funext fun p => ?_)
  rw [dots_at, wrow_eq, srow_eq]
  exact congrArg (fun z => dot kscale kinv z _ _ _) (row_eq m c t r s h)

/-- The array of the latents' codes: each row's codes, by the kernel's inverse scale. -/
theorem final4 : Value.G4 m c = fun i : S24576x512.Idx => Cert.Rows.ocode kinv (lat kscale kinv (X m c (i 0)) (W m c) (S m c) (Γ m c)) (i 1) := by
  funext i
  have h0 : (i 0).val < 24576 := (i 0).isLt
  have h1 : (i 1).val < 512 := (i 1).isLt
  have hp : Value.pt4Of i < cfg0.N := by
    have : cfg0.N = 96 := N_0
    show 1 * ((i 0).val / 256 - 0) + 1 * ((i 1).val / 512 - 0) < _
    omega
  have hv : Value.pt4Of i = (i 0).val / 256 := by
    show 1 * ((i 0).val / 256 - 0) + 1 * ((i 1).val / 512 - 0) = _
    omega
  have hr : (i 0).val = (⟨Value.pt4Of i, hp⟩ : Fin cfg0.N).val * 256 + (⟨(i 0).val % 256, Nat.mod_lt _ (by decide)⟩ : Fin 256).val := by
    show (i 0).val = Value.pt4Of i * 256 + (i 0).val % 256
    omega
  have hc : (Value.loc4Of i 1) = (i 1) := Fin.ext (Nat.mod_eq_of_lt h1)
  unfold Value.G4
  rw [dif_pos hp, acc_eq m c _ hp]
  unfold tuple
  dsimp only
  rw [occ_at]
  refine (congrArg (fun n => Cert.Rows.ocode kinv n _) (lat_at m c _ _ _ hr)).trans ?_
  exact congrArg (fun z => Cert.Rows.ocode kinv _ z) hc

/-- The array of the latents' scales. -/
theorem final5 : Value.G5 m c = fun i : S24576x4.Idx => kscale (omax (lat kscale kinv (X m c (i 0)) (W m c) (S m c) (Γ m c)) (i 1)) := by
  funext i
  have h0 : (i 0).val < 24576 := (i 0).isLt
  have h1 : (i 1).val < 4 := (i 1).isLt
  have hp : Value.pt5Of i < cfg0.N := by
    have : cfg0.N = 96 := N_0
    show 1 * ((i 0).val / 256 - 0) + 1 * ((i 1).val / 4 - 0) < _
    omega
  have hv : Value.pt5Of i = (i 0).val / 256 := by
    show 1 * ((i 0).val / 256 - 0) + 1 * ((i 1).val / 4 - 0) = _
    omega
  have hr : (i 0).val = (⟨Value.pt5Of i, hp⟩ : Fin cfg0.N).val * 256 + (⟨(i 0).val % 256, Nat.mod_lt _ (by decide)⟩ : Fin 256).val := by
    show (i 0).val = Value.pt5Of i * 256 + (i 0).val % 256
    omega
  have hc : (Value.loc5Of i 1) = (i 1) := Fin.ext (Nat.mod_eq_of_lt h1)
  unfold Value.G5
  rw [dif_pos hp, acc_eq m c _ hp]
  unfold tuple
  dsimp only
  rw [ocs_at]
  refine (congrArg (fun n => kscale (omax n _)) (lat_at m c _ _ _ hr)).trans ?_
  exact congrArg (fun z => kscale (omax _ z)) hc

/-- The array of the rotary columns. -/
theorem final6 : Value.G6 m c = fun i : S24576x64.Idx => dot kscale kinv (X m c (i 0)) (W m c) (S m c) ⟨512 + (i 1).val, by have : (i 1).val < 64 := (i 1).isLt; omega⟩ := by
  funext i
  have h0 : (i 0).val < 24576 := (i 0).isLt
  have h1 : (i 1).val < 64 := (i 1).isLt
  have hp : Value.pt6Of i < cfg0.N := by
    have : cfg0.N = 96 := N_0
    show 1 * ((i 0).val / 256 - 0) + 1 * ((i 1).val / 64 - 0) < _
    omega
  have hv : Value.pt6Of i = (i 0).val / 256 := by
    show 1 * ((i 0).val / 256 - 0) + 1 * ((i 1).val / 64 - 0) = _
    omega
  have hr : (i 0).val = (⟨Value.pt6Of i, hp⟩ : Fin cfg0.N).val * 256 + (⟨(i 0).val % 256, Nat.mod_lt _ (by decide)⟩ : Fin 256).val := by
    show (i 0).val = Value.pt6Of i * 256 + (i 0).val % 256
    omega
  have hc : (Value.loc6Of i 1) = (i 1) := Fin.ext (Nat.mod_eq_of_lt h1)
  unfold Value.G6
  rw [dif_pos hp, acc_eq m c _ hp]
  unfold tuple
  dsimp only
  rw [kpe_at]
  rw [dots_at, wrow_eq, srow_eq]
  show dot kscale kinv (row (iblk m c 0 _) ⟨(i 0).val % 256, _⟩) _ _ ⟨512 + (Value.loc6Of i 1).val, _⟩ = _
  rw [row_eq m c _ _ _ hr]
  refine congrArg (dot kscale kinv _ _ _) (Fin.ext ?_)
  show 512 + (i 1).val % 64 = 512 + (i 1).val
  omega

/-- The array of the activations' codes. -/
theorem final7 : Value.G7 m c = fun i : S24576x8192.Idx => code kinv (X m c (i 0)) (i 1) := by
  funext i
  have h0 : (i 0).val < 24576 := (i 0).isLt
  have h1 : (i 1).val < 8192 := (i 1).isLt
  have hp : Value.pt7Of i < cfg0.N := by
    have : cfg0.N = 96 := N_0
    show 1 * ((i 0).val / 256 - 0) + 1 * ((i 1).val / 8192 - 0) < _
    omega
  have hv : Value.pt7Of i = (i 0).val / 256 := by
    show 1 * ((i 0).val / 256 - 0) + 1 * ((i 1).val / 8192 - 0) = _
    omega
  have hr : (i 0).val = (⟨Value.pt7Of i, hp⟩ : Fin cfg0.N).val * 256 + (⟨(i 0).val % 256, Nat.mod_lt _ (by decide)⟩ : Fin 256).val := by
    show (i 0).val = Value.pt7Of i * 256 + (i 0).val % 256
    omega
  have hc : (Value.loc7Of i 1) = (i 1) := Fin.ext (Nat.mod_eq_of_lt h1)
  unfold Value.G7
  rw [dif_pos hp, acc_eq m c _ hp]
  unfold tuple
  dsimp only
  rw [code_at]
  show code kinv (row (iblk m c 0 _) ⟨(i 0).val % 256, _⟩) (Value.loc7Of i 1) = _
  rw [row_eq m c _ _ _ hr, hc]

/-- The array of the activations' scales. -/
theorem final8 : Value.G8 m c = fun i : S24576x64.Idx => kscale (xmax (X m c (i 0)) (i 1)) := by
  funext i
  have h0 : (i 0).val < 24576 := (i 0).isLt
  have h1 : (i 1).val < 64 := (i 1).isLt
  have hp : Value.pt8Of i < cfg0.N := by
    have : cfg0.N = 96 := N_0
    show 1 * ((i 0).val / 256 - 0) + 1 * ((i 1).val / 64 - 0) < _
    omega
  have hv : Value.pt8Of i = (i 0).val / 256 := by
    show 1 * ((i 0).val / 256 - 0) + 1 * ((i 1).val / 64 - 0) = _
    omega
  have hr : (i 0).val = (⟨Value.pt8Of i, hp⟩ : Fin cfg0.N).val * 256 + (⟨(i 0).val % 256, Nat.mod_lt _ (by decide)⟩ : Fin 256).val := by
    show (i 0).val = Value.pt8Of i * 256 + (i 0).val % 256
    omega
  have hc : (Value.loc8Of i 1) = (i 1) := Fin.ext (Nat.mod_eq_of_lt h1)
  unfold Value.G8
  rw [dif_pos hp, acc_eq m c _ hp]
  unfold tuple
  dsimp only
  rw [oxs_at]
  show kscale (xmax (row (iblk m c 0 _) ⟨(i 0).val % 256, _⟩) (Value.loc8Of i 1)) = _
  rw [row_eq m c _ _ _ hr, hc]

end

end Cert.KernelIdeal.Block

end
-- ==== Proof.ReferenceRows.lean ====
module

public import proofs.«01_k».proof.Proof.Gen.ReferenceIdeal.Frame
public import Idealize.ShloMosaic.Lib.Pipeline.ValueKit
public import Idealize.ShloMosaic.Lib.Pointwise
public import Idealize.ShloMosaic.Lib.IdealHost
public import proofs.«01_k».proof.Proof.Rows

@[expose] public section

set_option maxRecDepth 16384

noncomputable section

namespace Cert.ReferenceIdeal.Block

open Cert.ReferenceIdeal Cert.ReferenceIdeal.Gen Idealize.ShloMosaic Idealize.ShloMosaic.TcCoe

/-! # The reference's values, row by row, over the extended reals

Its arrays have 24576 rows, so each operation is read alone, over a variable operand, and the readings are chained. -/

open Cert.Rows Cert.Scale

/-- The exponents of the activations' groups from their largest magnitudes. -/
def xexp (u : FVec Ideal S24576x64x1 .bf16) : FVec Ideal S24576x64x1 .f32 :=
  have v6 : FVec Ideal S24576x64x1 .f32 := extf .f32 u bitsLt_bf16_f32
  have cst_1 : Ideal .f32 := Scalar.ofBits .f32 0x3B124925#32
  have v7 : FVec Ideal S24576x64x1 .f32 := broadcast S24576x64x1 cst_1
  have v8 : FVec Ideal S24576x64x1 .f32 := mulf v6 v7
  have cst_2 : Ideal .f32 := Scalar.ofBits .f32 0x00800000#32
  have v9 : FVec Ideal S24576x64x1 .f32 := broadcast S24576x64x1 cst_2
  have v10 : IVec S24576x64x1 1 := cmpf .olt v8 v9
  have v11 : FVec Ideal S24576x64x1 .f32 := log v8
  have cst_3 : Ideal .f32 := Scalar.ofBits .f32 0x40000000#32
  have v12 : FVec Ideal S24576x64x1 .f32 := broadcast S24576x64x1 cst_3
  have v13 : FVec Ideal S24576x64x1 .f32 := log v12
  have v14 : FVec Ideal S24576x64x1 .f32 := divf v11 v13
  have v15 : FVec Ideal S24576x64x1 .f32 := floor v14
  have cst_4 : Ideal .f32 := Scalar.ofBits .f32 0x3F800000#32
  have v16 : FVec Ideal S24576x64x1 .f32 := broadcast S24576x64x1 cst_4
  have v17 : FVec Ideal S24576x64x1 .f32 := addf v15 v16
  have cst_5 : Ideal .f32 := Scalar.ofBits .f32 0x00000000#32
  have v18 : FVec Ideal S24576x64x1 .f32 := broadcast S24576x64x1 cst_5
  select v10 v18 v17

theorem xexp_at (u : FVec Ideal S24576x64x1 .bf16) (j) : xexp u j = rexp (u j * Ideal.ofBits .f32 991054117#32) := by
  unfold xexp
  pointwise [Cert.Scale.rexp]

/-- The groups' largest magnitudes as a column. -/
def xcol (v : FVec Ideal S24576x64x128 .bf16) : FVec Ideal S24576x64x1 .bf16 :=
  shapeCast S24576x64x1 (multiReduction .maximumf [2] S24576x64 (absf v) 0xFF80#16 reduces_S24576x64x128_S24576x64 (.inr rfl) rfl) shapeCasts_S24576x64_S24576x64x1

theorem xcol_at (v : FVec Ideal S24576x64x128 .bf16) (j : S24576x64x1.Idx) : xcol v j
    = Finset.univ.fold max (Ideal.ofBits .bf16 65408#16) (fun k : Fin 128 => (FloatOps.absf (F := Ideal) (φ := .bf16) (v (ix3 (j 0) (j 1) k)) : EReal)) := by
  unfold xcol
  pointwise

theorem pay4_at (x : Vec Ideal S24576x8192 .bf16) (j : S24576x64x128.Idx) : k0_pay4 x j
    = x (ix2 (j 0) ⟨(j 1).val * 128 + (j 2).val, by have : (j 1).val < 64 := (j 1).isLt; have : (j 2).val < 128 := (j 2).isLt; omega⟩) := by
  unfold k0_pay4
  pointwise

/-- Row `r` of the activations. -/
def row (x : Vec Ideal S24576x8192 .bf16) (r : Fin 24576) : Fin 8192 → EReal := fun d => x (ix2 r d)

theorem pay5_eq (x : Vec Ideal S24576x8192 .bf16) : k0_pay5 x = xexp (xcol (k0_pay4 x)) := rfl

theorem pay5_at (x : Vec Ideal S24576x8192 .bf16) (j : S24576x64x1.Idx) : k0_pay5 x j = rexp (xmax (row x (j 0)) (j 1)) := by
  rw [pay5_eq, xexp_at, xcol_at]
  unfold xmax
  refine congrArg (fun z : EReal => rexp (z * _)) ?_
  refine Finset.fold_congr fun k _ => ?_
  refine congrArg _ ?_
  exact pay4_at x _

theorem exp2_at {S : Shape} (v : FVec Ideal S .f32) (j : S.Idx) : exp2 v j = Ideal.exp2 (v j) := rfl

theorem pay6_at (x : Vec Ideal S24576x8192 .bf16) (j : S24576x64x1.Idx) : k0_pay6 x j = rscale (xmax (row x (j 0)) (j 1)) := by
  have e : k0_pay6 x = exp2 (k0_pay5 x) := rfl
  rw [e, exp2_at, pay5_at]
  rfl

/-- The inverse scales from the exponents. -/
def inv (e : FVec Ideal S24576x64x1 .f32) : FVec Ideal S24576x64x1 .f32 :=
  exp2 (subf (broadcast S24576x64x1 (Scalar.ofBits .f32 0x00000000#32)) e)

theorem inv_at (e : FVec Ideal S24576x64x1 .f32) (j) : inv e j = Ideal.exp2 (0 - e j) := by
  unfold inv
  pointwise
  rfl

/-- The codes from the elements and the inverse scales. -/
def clip (v : FVec Ideal S24576x64x128 .bf16) (i : FVec Ideal S24576x64x1 .f32) : FVec Ideal S24576x64x128 .fp8e4m3 :=
  have v24 : FVec Ideal S24576x64x128 .f32 := extf .f32 v bitsLt_bf16_f32
  have v25 : FVec Ideal S24576x64x128 .f32 := broadcastTo S24576x64x128 i broadcasts_S24576x64x1_S24576x64x128
  have v26 : FVec Ideal S24576x64x128 .f32 := mulf v24 v25
  have v27 : FVec Ideal S24576x64x128 .f32 := broadcast S24576x64x128 (Scalar.ofBits .f32 0xC3E00000#32)
  have v28 : FVec Ideal S24576x64x128 .f32 := maximumf v27 v26
  have v29 : FVec Ideal S24576x64x128 .f32 := broadcast S24576x64x128 (Scalar.ofBits .f32 0x43E00000#32)
  have v30 : FVec Ideal S24576x64x128 .f32 := minimumf v29 v28
  truncf .fp8e4m3 v30 bitsLt_fp8e4m3_f32

theorem clip_at (v : FVec Ideal S24576x64x128 .bf16) (i : FVec Ideal S24576x64x1 .f32) (j : S24576x64x128.Idx) :
    clip v i j = min top (max bot (v j * i (ix3 (j 0) (j 1) 0))) := by
  unfold clip top bot
  pointwise

theorem pay7_eq (x : Vec Ideal S24576x8192 .bf16) : k0_pay7 x = clip (k0_pay4 x) (inv (k0_pay5 x)) := rfl

/-- Element `d` of a row is element `d % 128` of its group `d / 128`. -/
def at3 (r : Fin 24576) (d : Fin 8192) : S24576x64x128.Idx := ix3 r ⟨d.val / 128, by omega⟩ ⟨d.val % 128, Nat.mod_lt _ (by decide)⟩

theorem pay7_at (x : Vec Ideal S24576x8192 .bf16) (r : Fin 24576) (d : Fin 8192) :
    k0_pay7 x (at3 r d) = code rinv (row x r) d := by
  rw [pay7_eq, clip_at, inv_at, pay5_at, pay4_at]
  unfold code
  refine congrArg (min _) (congrArg (max _) ?_)
  refine congrArg₂ (· * ·) ?_ rfl
  unfold row
  refine congrArg x ?_
  refine congrArg (ix2 r) ?_
  apply Fin.ext
  show d.val / 128 * 128 + d.val % 128 = d.val
  omega

theorem join {φ : FTy} (v : FVec Ideal S24576x64x128 φ) (j : S24576x8192.Idx) :
    shapeCast S24576x8192 v shapeCasts_S24576x64x128_S24576x8192 j = v (at3 (j 0) (j 1)) := by
  unfold at3
  pointwise

theorem pay8_at (x : Vec Ideal S24576x8192 .bf16) (j : S24576x8192.Idx) : k0_pay8 x j = code rinv (row x (j 0)) (j 1) := by
  have e : k0_pay8 x = shapeCast S24576x8192 (k0_pay7 x) shapeCasts_S24576x64x128_S24576x8192 := rfl
  rw [e, join]
  exact pay7_at x (j 0) (j 1)

theorem drop (v : FVec Ideal S24576x64x1 .f32) (j : S24576x64.Idx) :
    shapeCast S24576x64 v shapeCasts_S24576x64x1_S24576x64 j = v (ix3 (j 0) (j 1) 0) := by
  pointwise

theorem pay9_at (x : Vec Ideal S24576x8192 .bf16) (j : S24576x64.Idx) : k0_pay9 x j = rscale (xmax (row x (j 0)) (j 1)) := by
  have e : k0_pay9 x = shapeCast S24576x64 (k0_pay6 x) shapeCasts_S24576x64x1_S24576x64 := rfl
  rw [e, drop, pay6_at]
  rfl

/-- The activations dequantised, group by group. -/
def mul (q : FVec Ideal S24576x64x128 .fp8e4m3) (s : FVec Ideal S24576x64x1 .f32) : FVec Ideal S24576x64x128 .bf16 :=
  mulf (extf .bf16 q bitsLt_fp8e4m3_bf16) (broadcastTo S24576x64x128 (truncf .bf16 s bitsLt_bf16_f32) broadcasts_S24576x64x1_S24576x64x128)

theorem mul_at (q : FVec Ideal S24576x64x128 .fp8e4m3) (s : FVec Ideal S24576x64x1 .f32) (j : S24576x64x128.Idx) :
    mul q s j = q j * s (ix3 (j 0) (j 1) 0) := by
  unfold mul
  pointwise

theorem pay10_at (x : Vec Ideal S24576x8192 .bf16) (j : S24576x8192.Idx) : k0_pay10 x j = deq rscale rinv (row x (j 0)) (j 1) := by
  have e : k0_pay10 x = shapeCast S24576x8192 (mul (k0_pay7 x) (k0_pay6 x)) shapeCasts_S24576x64x128_S24576x8192 := rfl
  rw [e, join, mul_at, pay6_at]
  exact congrArg (· * _) (pay7_at x (j 0) (j 1))

/-- The weight codes, their scales and gamma by coordinates. -/
def wrow (w : Vec Ideal S576x8192 .fp8e4m3) : Fin 576 → Fin 8192 → EReal := fun o d => w (ix2 o d)
def srow (s : Vec Ideal S5x64 .f32) : Fin 5 → Fin 64 → EReal := fun o d => s (ix2 o d)
def grow (g : Vec Ideal S1x512 .bf16) : Fin 512 → EReal := fun o => g (ix2 0 o)

theorem pay11_at (s : Vec Ideal S5x64 .f32) (w : Vec Ideal S576x8192 .fp8e4m3) (j : S576x8192.Idx) :
    k0_pay11 s w j = wd (wrow w) (srow s) (j 0) (j 1) := by
  unfold k0_pay11 wd wrow srow
  pointwise

theorem pay12_at (x : FVec Ideal S24576x8192 .bf16) (s) (w) (j : S24576x64.Idx) : k0_pay12 (F := Ideal) x s w j
    = ∑ d, x (ix2 (j 0) d) * k0_pay11 s w (ix2 ⟨512 + (j 1).val, by have : (j 1).val < 64 := (j 1).isLt; omega⟩ d) := by
  unfold k0_pay12
  generalize k0_pay11 s w = W
  pointwise

/-- The product with the first 512 weight rows. -/
def prod (x : FVec Ideal S24576x8192 .bf16) (W : FVec Ideal S576x8192 .bf16) : FVec Ideal S24576x512 .f32 :=
  matmul dot_S24576x8192_S512x8192_S24576x512_1_1_0_0_n_n none x (extractStridedSlice S512x8192 ![0, 0] W slices_S576x8192_o0_0_S512x8192) (constant S24576x512 .f32 0x00000000#32)

theorem prod_at (x : FVec Ideal S24576x8192 .bf16) (W : FVec Ideal S576x8192 .bf16) (j : S24576x512.Idx) :
    prod x W j = ∑ d, x (ix2 (j 0) d) * W (ix2 ⟨(j 1).val, by have : (j 1).val < 512 := (j 1).isLt; omega⟩ d) := by
  unfold prod
  pointwise

/-- Normalised rows. -/
def normed (v54 : FVec Ideal S24576x512 .f32) (v69 : Vec Ideal S1x512 .bf16) : FVec Ideal S24576x512 .f32 :=
  have v59 : FVec Ideal S24576x512 .f32 := mulf v54 v54
  have v60 : FVec Ideal S24576 .f32 := multiReduction .add [1] S24576 v59 0x00000000#32 reduces_S24576x512_S24576 (.inl rfl) rfl
  have v61 : FVec Ideal S24576x1 .f32 := shapeCast S24576x1 v60 shapeCasts_S24576_S24576x1
  have v62 : FVec Ideal S24576x1 .f32 := broadcast S24576x1 (Scalar.ofBits .f32 0x44000000#32)
  have v63 : FVec Ideal S24576x1 .f32 := divf v61 v62
  have v64 : FVec Ideal S24576x1 .f32 := broadcast S24576x1 (Scalar.ofBits .f32 0x358637BD#32)
  have v65 : FVec Ideal S24576x1 .f32 := addf v63 v64
  have v66 : FVec Ideal S24576x1 .f32 := rsqrt v65
  have v67 : FVec Ideal S24576x512 .f32 := broadcastTo S24576x512 v66 broadcasts_S24576x1_S24576x512
  have v68 : FVec Ideal S24576x512 .f32 := mulf v54 v67
  have v70 : FVec Ideal S1x512 .bf16 := shapeCast S1x512 v69 shapeCasts_S1x512_S1x512
  have v71 : FVec Ideal S1x512 .f32 := extf .f32 v70 bitsLt_bf16_f32
  have v72 : FVec Ideal S24576x512 .f32 := broadcastTo S24576x512 v71 broadcasts_S1x512_S24576x512
  mulf v68 v72

theorem normed_at (c : FVec Ideal S24576x512 .f32) (g : Vec Ideal S1x512 .bf16) (j : S24576x512.Idx) :
    normed c g j = nrm (fun o => c (ix2 (j 0) o)) (grow g) (j 1) := by
  unfold normed nrm grow
  pointwise

theorem pay13_eq (x : FVec Ideal S24576x8192 .bf16) (s) (w) (g) :
    k0_pay13 (F := Ideal) x s w g = shapeCast S24576x4x128 (normed (prod x (k0_pay11 s w)) g) shapeCasts_S24576x512_S24576x4x128 := rfl

/-- Element `o` of a normalised row is element `o % 128` of its group `o / 128`. -/
def ot3 (r : Fin 24576) (d : Fin 512) : S24576x4x128.Idx := ix3 r ⟨d.val / 128, by omega⟩ ⟨d.val % 128, Nat.mod_lt _ (by decide)⟩

theorem split4 (v : FVec Ideal S24576x512 .f32) (j : S24576x4x128.Idx) : shapeCast S24576x4x128 v shapeCasts_S24576x512_S24576x4x128 j
    = v (ix2 (j 0) ⟨(j 1).val * 128 + (j 2).val, by have : (j 1).val < 4 := (j 1).isLt; have : (j 2).val < 128 := (j 2).isLt; omega⟩) := by
  pointwise

/-- The groups' largest magnitudes as a column. -/
def omaxcol (v : FVec Ideal S24576x4x128 .f32) : FVec Ideal S24576x4x1 .f32 :=
  shapeCast S24576x4x1 (multiReduction .maximumf [2] S24576x4 (absf v) 0xFF800000#32 reduces_S24576x4x128_S24576x4 (.inl rfl) rfl) shapeCasts_S24576x4_S24576x4x1

theorem omaxcol_at (v : FVec Ideal S24576x4x128 .f32) (j : S24576x4x1.Idx) : omaxcol v j
    = Finset.univ.fold max (Ideal.ofBits .f32 4286578688#32) (fun k : Fin 128 => (FloatOps.absf (F := Ideal) (φ := .f32) (v (ix3 (j 0) (j 1) k)) : EReal)) := by
  unfold omaxcol
  pointwise

/-- The same over 448. -/
def ocol (v : FVec Ideal S24576x4x128 .f32) : FVec Ideal S24576x4x1 .f32 :=
  mulf (omaxcol v) (broadcast S24576x4x1 (Scalar.ofBits .f32 0x3B124925#32))

theorem over_at (u : FVec Ideal S24576x4x1 .f32) (j) :
    mulf u (broadcast S24576x4x1 (Scalar.ofBits .f32 0x3B124925#32)) j = u j * Ideal.ofBits .f32 991054117#32 := rfl

theorem ocol_at (v : FVec Ideal S24576x4x128 .f32) (j : S24576x4x1.Idx) : ocol v j
    = Finset.univ.fold max (Ideal.ofBits .f32 4286578688#32) (fun k : Fin 128 => (FloatOps.absf (F := Ideal) (φ := .f32) (v (ix3 (j 0) (j 1) k)) : EReal))
      * Ideal.ofBits .f32 991054117#32 := by
  unfold ocol
  rw [over_at, omaxcol_at]

theorem pay14_eq (x : FVec Ideal S24576x8192 .bf16) (s) (w) (g) : k0_pay14 (F := Ideal) x s w g = ocol (k0_pay13 x s w g) := rfl

/-- The exponents of a column of values. -/
def oexp (y : FVec Ideal S24576x4x1 .f32) : FVec Ideal S24576x4x1 .f32 :=
  k0_pay1 (cmpf .olt y (broadcast S24576x4x1 (Scalar.ofBits .f32 0x00800000#32))) (log y) k0_pay17

theorem oexp_at (y : FVec Ideal S24576x4x1 .f32) (j) : oexp y j = rexp (y j) := by
  unfold oexp k0_pay1 k0_pay17
  pointwise [Cert.Scale.rexp]

theorem drop4 (v : FVec Ideal S24576x4x1 .f32) (j : S24576x4.Idx) :
    shapeCast S24576x4 v shapeCasts_S24576x4x1_S24576x4 j = v (ix3 (j 0) (j 1) 0) := by
  pointwise

/-- The scales from the values. -/
theorem scale4_at (y : FVec Ideal S24576x4x1 .f32) (j : S24576x4.Idx) :
    k0_pay3 (cmpf .olt y (broadcast S24576x4x1 (Scalar.ofBits .f32 0x00800000#32))) (log y) k0_pay17 j = rscale (y (ix3 (j 0) (j 1) 0)) := by
  have e : k0_pay3 (cmpf .olt y (broadcast S24576x4x1 (Scalar.ofBits .f32 0x00800000#32))) (log y) k0_pay17
      = shapeCast S24576x4 (exp2 (oexp y)) shapeCasts_S24576x4x1_S24576x4 := rfl
  rw [e, drop4]
  show Ideal.exp2 (oexp y _) = _
  rw [oexp_at]
  rfl

/-- The codes of the normalised rows from the elements and the exponents. -/
def oclip (v : FVec Ideal S24576x4x128 .f32) (e : FVec Ideal S24576x4x1 .f32) : FVec Ideal S24576x4x128 .fp8e4m3 :=
  have v93 : FVec Ideal S24576x4x1 .f32 := subf (broadcast S24576x4x1 (Scalar.ofBits .f32 0x00000000#32)) e
  have v94 : FVec Ideal S24576x4x1 .f32 := exp2 v93
  have v95 : FVec Ideal S24576x4x128 .f32 := broadcastTo S24576x4x128 v94 broadcasts_S24576x4x1_S24576x4x128
  have v96 : FVec Ideal S24576x4x128 .f32 := mulf v v95
  have v97 : FVec Ideal S24576x4x128 .f32 := broadcast S24576x4x128 (Scalar.ofBits .f32 0xC3E00000#32)
  have v98 : FVec Ideal S24576x4x128 .f32 := maximumf v97 v96
  have v99 : FVec Ideal S24576x4x128 .f32 := broadcast S24576x4x128 (Scalar.ofBits .f32 0x43E00000#32)
  have v100 : FVec Ideal S24576x4x128 .f32 := minimumf v99 v98
  truncf .fp8e4m3 v100 bitsLt_fp8e4m3_f32

theorem oclip_at (v : FVec Ideal S24576x4x128 .f32) (e : FVec Ideal S24576x4x1 .f32) (j : S24576x4x128.Idx) :
    oclip v e j = min top (max bot (v j * Ideal.exp2 (0 - e (ix3 (j 0) (j 1) 0)))) := by
  unfold oclip top bot
  pointwise
  rfl

theorem join4 (v : FVec Ideal S24576x4x128 .fp8e4m3) (j : S24576x512.Idx) :
    shapeCast S24576x512 v shapeCasts_S24576x4x128_S24576x512 j = v (ot3 (j 0) (j 1)) := by
  unfold ot3
  pointwise

theorem code4_at (v : FVec Ideal S24576x4x128 .f32) (y : FVec Ideal S24576x4x1 .f32) (j : S24576x512.Idx) :
    k0_pay2 v (cmpf .olt y (broadcast S24576x4x1 (Scalar.ofBits .f32 0x00800000#32))) (log y) k0_pay17 j
      = min top (max bot (v (ot3 (j 0) (j 1)) * rinv (y (ix3 (j 0) ⟨(j 1).val / 128, by have : (j 1).val < 512 := (j 1).isLt; omega⟩ 0)))) := by
  have e : k0_pay2 v (cmpf .olt y (broadcast S24576x4x1 (Scalar.ofBits .f32 0x00800000#32))) (log y) k0_pay17
      = shapeCast S24576x512 (oclip v (oexp y)) shapeCasts_S24576x4x128_S24576x512 := rfl
  rw [e, join4, oclip_at, oexp_at]
  rfl

end Cert.ReferenceIdeal.Block

end
-- ==== Proof.ReferenceOuts.lean ====
module

public import proofs.«01_k».proof.Proof.ReferenceRows

@[expose] public section

set_option maxRecDepth 16384

/-! # What the reference's one point leaves, row by row -/

noncomputable section

namespace Cert.ReferenceIdeal.Block

open Cert.ReferenceIdeal Cert.ReferenceIdeal.Gen Idealize.ShloMosaic Idealize.ShloMosaic.TcCoe
open Cert.Rows Cert.Scale

variable (x0 : Vec Ideal S24576x8192 .bf16) (x1 : Vec Ideal S576x8192 .fp8e4m3) (x2 : Vec Ideal S5x64 .f32) (x3 : Vec Ideal S1x512 .bf16)

/-- The loads of whole blocks are the blocks. -/
theorem pay18_eq : k0_pay18 x0 x1 x2 x3 = k0_pay10 x0 := by
  unfold k0_pay18
  rw [View.ld_unit_lit]
  decide

theorem pay19_eq : k0_pay19 x0 x1 x2 x3
    = cmpf .olt (ocol (k0_pay13 (k0_pay10 x0) x2 x1 x3)) (broadcast S24576x4x1 (Scalar.ofBits .f32 0x00800000#32)) := by
  unfold k0_pay19
  rw [View.ld_unit_lit, View.ld_unit_lit, View.ld_unit_lit, pay18_eq]
  unfold k0_pay15
  rw [pay14_eq]
  all_goals decide

theorem pay20_eq : k0_pay20 x0 x1 x2 x3 = log (ocol (k0_pay13 (k0_pay10 x0) x2 x1 x3)) := by
  unfold k0_pay20
  rw [View.ld_unit_lit, View.ld_unit_lit, View.ld_unit_lit, pay18_eq]
  unfold k0_pay16
  rw [pay14_eq]
  all_goals decide

theorem out7_at (y : S24576x8192.Idx) : out0_7 x0 x1 x2 x3 y = code rinv (row x0 (y 0)) (y 1) := by
  frame_out
  exact pay8_at x0 y

theorem out8_at (y : S24576x64.Idx) : out0_8 x0 x1 x2 x3 y = rscale (xmax (row x0 (y 0)) (y 1)) := by
  frame_out
  exact pay9_at x0 y

/-- A product with a weight row, the factors in the other order. -/
theorem sum_eq (r : Fin 24576) (o : Fin 576) : ∑ d, k0_pay10 x0 (ix2 r d) * k0_pay11 x2 x1 (ix2 o d)
    = dot rscale rinv (row x0 r) (wrow x1) (srow x2) o := by
  unfold dot
  refine Finset.sum_congr rfl fun d _ => ?_
  rw [pay10_at, pay11_at, mul_comm]
  rfl

theorem out6_at (y : S24576x64.Idx) : out0_6 x0 x1 x2 x3 y
    = dot rscale rinv (row x0 (y 0)) (wrow x1) (srow x2) ⟨512 + (y 1).val, by have : (y 1).val < 64 := (y 1).isLt; omega⟩ := by
  have e : k0_pay12 (k0_pay10 x0) x2 x1 y = _ := pay12_at (k0_pay10 x0) x2 x1 y
  frame_out
  rw [pay18_eq]
  refine e.trans ?_
  exact sum_eq x0 x1 x2 (y 0) _

/-- The normalised latents by groups. -/
theorem pay13_at (j : S24576x4x128.Idx) : k0_pay13 (k0_pay10 x0) x2 x1 x3 j
    = lat rscale rinv (row x0 (j 0)) (wrow x1) (srow x2) (grow x3)
      ⟨(j 1).val * 128 + (j 2).val, by have : (j 1).val < 4 := (j 1).isLt; have : (j 2).val < 128 := (j 2).isLt; omega⟩ := by
  rw [pay13_eq, split4, normed_at]
  unfold lat
  refine congrArg (fun c => nrm c _ _) (funext fun o => ?_)
  rw [prod_at]
  exact sum_eq x0 x1 x2 (j 0) _

theorem ymax_at (j : S24576x4x1.Idx) : ocol (k0_pay13 (k0_pay10 x0) x2 x1 x3) j
    = omax (lat rscale rinv (row x0 (j 0)) (wrow x1) (srow x2) (grow x3)) (j 1) := by
  rw [ocol_at]
  unfold omax
  refine congrArg (fun z : EReal => z * _) ?_
  refine Finset.fold_congr fun k _ => congrArg _ ?_
  exact pay13_at x0 x1 x2 x3 _

theorem out5_at (y : S24576x4.Idx) : out0_5 x0 x1 x2 x3 y
    = rscale (omax (lat rscale rinv (row x0 (y 0)) (wrow x1) (srow x2) (grow x3)) (y 1)) := by
  have e := scale4_at (ocol (k0_pay13 (k0_pay10 x0) x2 x1 x3)) y
  rw [ymax_at] at e
  frame_out
  rw [pay19_eq, pay20_eq]
  exact e

theorem out4_at (y : S24576x512.Idx) : out0_4 x0 x1 x2 x3 y
    = ocode rinv (lat rscale rinv (row x0 (y 0)) (wrow x1) (srow x2) (grow x3)) (y 1) := by
  have e := code4_at (k0_pay13 (k0_pay10 x0) x2 x1 x3) (ocol (k0_pay13 (k0_pay10 x0) x2 x1 x3)) y
  rw [ymax_at, pay13_at] at e
  frame_out
  rw [pay18_eq, pay19_eq, pay20_eq]
  refine Eq.trans e ?_
  unfold ocode
  refine congrArg (min _) (congrArg (max _) (congrArg₂ (· * ·) (congrArg _ (Fin.ext ?_)) rfl))
  show (y 1).val / 128 * 128 + (y 1).val % 128 = (y 1).val
  omega

end Cert.ReferenceIdeal.Block

end
-- ==== Proof.ReferenceArrays.lean ====
module

public import proofs.«01_k».proof.Proof.ReferenceOuts
public import Idealize.ShloMosaic.Lib.Pipeline.ValueKit
public import Idealize.ShloMosaic.Lib.Claim

@[expose] public section

set_option maxRecDepth 16384

/-! # The reference's arrays after its run -/

noncomputable section

namespace Cert.ReferenceIdeal.Block

open Cert.ReferenceIdeal Cert.ReferenceIdeal.Gen Idealize.ShloMosaic Idealize.ShloMosaic.TcCoe Idealize.SL.Sem
open Idealize.ShloMosaic.Pipeline (Dat)
open Cert.Rows Cert.Scale

variable (m : (ℓ : Loc nD τ sig) → Buf (Elt Ideal) ℓ) (ρ : Dev nD → PrngReg)

/-- Row `r` of the activations, of the 8 by 3072 rows of the argument. -/
def argRow (x : Vec Ideal S8x3072x8192 .bf16) (r : Fin 24576) : Fin 8192 → EReal :=
  fun d => x (ix3 ⟨r.val / 3072, by omega⟩ ⟨r.val % 3072, Nat.mod_lt _ (by decide)⟩ d)

/-- The argument gamma by coordinates. -/
def argGamma (g : Vec Ideal S512 .bf16) : Fin 512 → EReal := fun o => g (ix1 o)

theorem index0 : ∀ (t : Fin cfg0.N) (a : Fin 2), win0_0.index t a = 0 :=
  (by decide +kernel : ∀ (t : Fin grid0.N) (a : Fin 2), win0_0.index t a = 0)

theorem index1 : ∀ (t : Fin cfg0.N) (a : Fin 2), win0_1.index t a = 0 :=
  (by decide +kernel : ∀ (t : Fin grid0.N) (a : Fin 2), win0_1.index t a = 0)

theorem index2 : ∀ (t : Fin cfg0.N) (a : Fin 2), win0_2.index t a = 0 :=
  (by decide +kernel : ∀ (t : Fin grid0.N) (a : Fin 2), win0_2.index t a = 0)

theorem index3 : ∀ (t : Fin cfg0.N) (a : Fin 2), win0_3.index t a = 0 :=
  (by decide +kernel : ∀ (t : Fin grid0.N) (a : Fin 2), win0_3.index t a = 0)

/-- The activations as the call takes them: the argument's two leading axes as one. -/
theorem entry0 (c : Dev nD) (j : S24576x8192.Idx) : V m c main_v0 j
    = m ((c : Thread nD τ).loc main_arg0) (ix3 ⟨(j 0).val / 3072, by have : (j 0).val < 24576 := (j 0).isLt; omega⟩ ⟨(j 0).val % 3072, Nat.mod_lt _ (by decide)⟩ (j 1)) := by
  entry_read
  pointwise

/-- Gamma as the call takes it: a row. -/
theorem entry3 (c : Dev nD) (j : S1x512.Idx) : V m c main_v1 j = m ((c : Thread nD τ).loc main_arg3) (ix1 (j 1)) := by
  entry_read
  pointwise

/-- Every window of the one point takes its whole array. -/
theorem const0 (c : Dev nD) (t : Fin cfg0.N) (r : Fin 24576) :
    row (iblk m c 0 t) r = argRow (m ((c : Thread nD τ).loc main_arg0)) r := by
  funext d
  have e : iblk m c 0 t (ix2 r d) = V m c main_v0 (ix2 r d) := by
    blk_ext [iblk, index0 t]
  exact e.trans (entry0 m c (ix2 r d))

theorem const1 (c : Dev nD) (t : Fin cfg0.N) : wrow (iblk m c 1 t) = wrow (m ((c : Thread nD τ).loc main_arg1)) := by
  funext o d
  show iblk m c 1 t (ix2 o d) = m ((c : Thread nD τ).loc main_arg1) (ix2 o d)
  blk_ext [iblk, index1 t]

theorem const2 (c : Dev nD) (t : Fin cfg0.N) : srow (iblk m c 2 t) = srow (m ((c : Thread nD τ).loc main_arg2)) := by
  funext o d
  show iblk m c 2 t (ix2 o d) = m ((c : Thread nD τ).loc main_arg2) (ix2 o d)
  blk_ext [iblk, index2 t]

theorem const3 (c : Dev nD) (t : Fin cfg0.N) : grow (iblk m c 3 t) = argGamma (m ((c : Thread nD τ).loc main_arg3)) := by
  funext o
  have e : iblk m c 3 t (ix2 0 o) = V m c main_v1 (ix2 0 o) := by
    blk_ext [iblk, index3 t]
  exact e.trans (entry3 m c (ix2 0 o))

section
variable (c : Dev nD)

/-- The arguments by rows. -/
abbrev X := argRow (m ((c : Thread nD τ).loc main_arg0))
abbrev W := wrow (m ((c : Thread nD τ).loc main_arg1))
abbrev S := srow (m ((c : Thread nD τ).loc main_arg2))
abbrev Γ := argGamma (m ((c : Thread nD τ).loc main_arg3))

/-- What window 4's array ends holding. -/
def G4 : Vec Ideal S24576x512 .fp8e4m3 := fun i => ocode rinv (lat rscale rinv (X m c (i 0)) (W m c) (S m c) (Γ m c)) (i 1)

/-- What the body leaves in window 4. -/
theorem left4 (t : Fin cfg0.N) (y : S24576x512.Idx) :
    out0_4 (iblk m c 0 t) (iblk m c 1 t) (iblk m c 2 t) (iblk m c 3 t) y = G4 m c y := by
  rw [out4_at, const0 m c t (y 0), const1, const2, const3]
  rfl

theorem index4 : ∀ (t : Fin cfg0.N) (a : Fin 2), win0_4.index t a = 0 :=
  (by decide +kernel : ∀ (t : Fin grid0.N) (a : Fin 2), win0_4.index t a = 0)

/-- Window 4's one block is the whole array. -/
theorem emb4 (t : Fin cfg0.N) (y : S24576x512.Idx) : ((cfg0.win 4).blk t).view.emb y = y := by
  blk_ext [index4 t]

/-- Window 4's array after the one point. -/
theorem final4 : (dats m 0 c).arrAt 4 cfg0.N = G4 m c := by
  refine (dats m 0 c).arrAt_eq_of_covers 4 _ (by decide +kernel) fun t hf y => ?_
  blk_simp
  rw [after0_4]
  exact (left4 m c t y).trans (congrArg (G4 m c) (emb4 t y).symm)

/-- What window 5's array ends holding. -/
def G5 : Vec Ideal S24576x4 .f32 := fun i => rscale (omax (lat rscale rinv (X m c (i 0)) (W m c) (S m c) (Γ m c)) (i 1))

/-- What the body leaves in window 5. -/
theorem left5 (t : Fin cfg0.N) (y : S24576x4.Idx) :
    out0_5 (iblk m c 0 t) (iblk m c 1 t) (iblk m c 2 t) (iblk m c 3 t) y = G5 m c y := by
  rw [out5_at, const0 m c t (y 0), const1, const2, const3]
  rfl

theorem index5 : ∀ (t : Fin cfg0.N) (a : Fin 2), win0_5.index t a = 0 :=
  (by decide +kernel : ∀ (t : Fin grid0.N) (a : Fin 2), win0_5.index t a = 0)

/-- Window 5's one block is the whole array. -/
theorem emb5 (t : Fin cfg0.N) (y : S24576x4.Idx) : ((cfg0.win 5).blk t).view.emb y = y := by
  blk_ext [index5 t]

/-- Window 5's array after the one point. -/
theorem final5 : (dats m 0 c).arrAt 5 cfg0.N = G5 m c := by
  refine (dats m 0 c).arrAt_eq_of_covers 5 _ (by decide +kernel) fun t hf y => ?_
  blk_simp
  rw [after0_5]
  exact (left5 m c t y).trans (congrArg (G5 m c) (emb5 t y).symm)

/-- What window 6's array ends holding. -/
def G6 : Vec Ideal S24576x64 .bf16 := fun i => dot rscale rinv (X m c (i 0)) (W m c) (S m c) ⟨512 + (i 1).val, by have : (i 1).val < 64 := (i 1).isLt; omega⟩

/-- What the body leaves in window 6. -/
theorem left6 (t : Fin cfg0.N) (y : S24576x64.Idx) :
    out0_6 (iblk m c 0 t) (iblk m c 1 t) (iblk m c 2 t) (iblk m c 3 t) y = G6 m c y := by
  rw [out6_at, const0 m c t (y 0), const1, const2]
  rfl

theorem index6 : ∀ (t : Fin cfg0.N) (a : Fin 2), win0_6.index t a = 0 :=
  (by decide +kernel : ∀ (t : Fin grid0.N) (a : Fin 2), win0_6.index t a = 0)

/-- Window 6's one block is the whole array. -/
theorem emb6 (t : Fin cfg0.N) (y : S24576x64.Idx) : ((cfg0.win 6).blk t).view.emb y = y := by
  blk_ext [index6 t]

/-- Window 6's array after the one point. -/
theorem final6 : (dats m 0 c).arrAt 6 cfg0.N = G6 m c := by
  refine (dats m 0 c).arrAt_eq_of_covers 6 _ (by decide +kernel) fun t hf y => ?_
  blk_simp
  rw [after0_6]
  exact (left6 m c t y).trans (congrArg (G6 m c) (emb6 t y).symm)

/-- What window 7's array ends holding. -/
def G7 : Vec Ideal S24576x8192 .fp8e4m3 := fun i => code rinv (X m c (i 0)) (i 1)

/-- What the body leaves in window 7. -/
theorem left7 (t : Fin cfg0.N) (y : S24576x8192.Idx) :
    out0_7 (iblk m c 0 t) (iblk m c 1 t) (iblk m c 2 t) (iblk m c 3 t) y = G7 m c y := by
  rw [out7_at, const0 m c t (y 0)]
  rfl

theorem index7 : ∀ (t : Fin cfg0.N) (a : Fin 2), win0_7.index t a = 0 :=
  (by decide +kernel : ∀ (t : Fin grid0.N) (a : Fin 2), win0_7.index t a = 0)

/-- Window 7's one block is the whole array. -/
theorem emb7 (t : Fin cfg0.N) (y : S24576x8192.Idx) : ((cfg0.win 7).blk t).view.emb y = y := by
  blk_ext [index7 t]

/-- Window 7's array after the one point. -/
theorem final7 : (dats m 0 c).arrAt 7 cfg0.N = G7 m c := by
  refine (dats m 0 c).arrAt_eq_of_covers 7 _ (by decide +kernel) fun t hf y => ?_
  blk_simp
  rw [after0_7]
  exact (left7 m c t y).trans (congrArg (G7 m c) (emb7 t y).symm)

/-- What window 8's array ends holding. -/
def G8 : Vec Ideal S24576x64 .f32 := fun i => rscale (xmax (X m c (i 0)) (i 1))

/-- What the body leaves in window 8. -/
theorem left8 (t : Fin cfg0.N) (y : S24576x64.Idx) :
    out0_8 (iblk m c 0 t) (iblk m c 1 t) (iblk m c 2 t) (iblk m c 3 t) y = G8 m c y := by
  rw [out8_at, const0 m c t (y 0)]
  rfl

theorem index8 : ∀ (t : Fin cfg0.N) (a : Fin 2), win0_8.index t a = 0 :=
  (by decide +kernel : ∀ (t : Fin grid0.N) (a : Fin 2), win0_8.index t a = 0)

/-- Window 8's one block is the whole array. -/
theorem emb8 (t : Fin cfg0.N) (y : S24576x64.Idx) : ((cfg0.win 8).blk t).view.emb y = y := by
  blk_ext [index8 t]

/-- Window 8's array after the one point. -/
theorem final8 : (dats m 0 c).arrAt 8 cfg0.N = G8 m c := by
  refine (dats m 0 c).arrAt_eq_of_covers 8 _ (by decide +kernel) fun t hf y => ?_
  blk_simp
  rw [after0_8]
  exact (left8 m c t y).trans (congrArg (G8 m c) (emb8 t y).symm)

end

/-- The run: each output array named, the arguments kept. -/
theorem run : θ_run defs (onTc (τ := τ) (main (F := Ideal))) ⟨m, fun _ => 0, ρ⟩ fun r => ∀ c : Dev nD,
      r.2.mem ((c : Thread nD τ).loc main_v2_0) = G4 m c
      ∧ r.2.mem ((c : Thread nD τ).loc main_v2_1) = G5 m c
      ∧ r.2.mem ((c : Thread nD τ).loc main_v2_2) = G6 m c
      ∧ r.2.mem ((c : Thread nD τ).loc main_v2_3) = G7 m c
      ∧ r.2.mem ((c : Thread nD τ).loc main_v2_4) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c), ((h c).1 7).trans (final7 m c), ((h c).1 8).trans (final8 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.ReferenceIdeal.Block

end
-- ==== Proof.Bounds.lean ====
module

public import proofs.«01_k».proof.Proof.Rows
public import proofs.«01_k».proof.Proof.Scale

@[expose] public section

set_option maxRecDepth 16384

/-! # The groups' magnitudes are small reals

Over finite activations and finite gamma the largest magnitude of a group, over 448, is a real below 2^126, where the
kernel's scales and the reference's agree. -/

noncomputable section

namespace Cert.Rows

open Idealize.ShloMosaic Cert.Scale

/-- The largest finite value of the 16-bit format. -/
def big : EReal := Ideal.ofBits .bf16 0x7F7F#16

/-- A positive normal pattern: its significand times a power of two. -/
theorem ieee_pos (e m : Nat) {w : Nat} (b : BitVec w) (k f : Nat) (hs : b.extractLsb' (e + m) 1 = 0#1)
    (he : (b.extractLsb' m e).toNat = k) (hf : (b.extractLsb' 0 m).toNat = f) (h1 : k ≠ 2 ^ e - 1) (h0 : k ≠ 0) :
    Ideal.ieee e m b = ((((2 ^ m + f : ℕ) : ℝ) * (2 : ℝ) ^ ((k : ℤ) - (2 ^ (e - 1) - 1) - m) : ℝ) : EReal) := by
  unfold Ideal.ieee
  simp only [hs, he, hf]
  rw [if_neg h1, if_neg h0]
  simp

theorem big_eq : big = (((2 : ℝ) ^ (120 : ℤ) * 255 : ℝ) : EReal) := by
  refine (ieee_pos 8 7 0x7F7F#16 254 127 (by decide) (by decide) (by decide) (by decide) (by decide)).trans (congrArg _ ?_)
  norm_num

theorem c448_eq : Ideal.ofBits .f32 991054117#32 = ((9586981 / 4294967296 : ℝ) : EReal) := by
  refine (ieee_pos 8 23 991054117#32 118 1198373 (by decide) (by decide) (by decide) (by decide) (by decide)).trans (congrArg _ ?_)
  norm_num

theorem c512_eq : Ideal.ofBits .f32 1140850688#32 = ((512 : ℝ) : EReal) := by
  refine (ieee_pos 8 23 1140850688#32 136 0 (by decide) (by decide) (by decide) (by decide) (by decide)).trans (congrArg _ ?_)
  norm_num

theorem eps_eq : Ideal.ofBits .f32 897988541#32 = ((8796093 / 8796093022208 : ℝ) : EReal) := by
  refine (ieee_pos 8 23 897988541#32 107 407485 (by decide) (by decide) (by decide) (by decide) (by decide)).trans (congrArg _ ?_)
  norm_num

theorem ninf16 : Ideal.ofBits .bf16 65408#16 = ⊥ := by
  simp [Ideal.ofBits, Ideal.ieee]

theorem ninf32 : Ideal.ofBits .f32 4286578688#32 = ⊥ := by
  simp [Ideal.ofBits, Ideal.ieee]

/-- A magnitude bounded by a real is a real within the bound. -/
theorem real_of_abs (x : EReal) (M : ℝ) (h : max x (-x) ≤ (M : EReal)) : ∃ a : ℝ, x = a ∧ |a| ≤ M := by
  have h1 : x ≤ M := (le_max_left _ _).trans h
  have h2 : -x ≤ M := (le_max_right _ _).trans h
  induction x using EReal.rec with
  | bot => simp at h2
  | top => simp at h1
  | coe a =>
    refine ⟨a, rfl, abs_le.2 ⟨?_, by exact_mod_cast h1⟩⟩
    have : -a ≤ M := by exact_mod_cast h2
    linarith

/-- The largest of 128 magnitudes, each bounded by a real, is a real within the bound. -/
theorem fold_real (f : Fin 128 → EReal) (M : ℝ) (h : ∀ k, max (f k) (-(f k)) ≤ (M : EReal)) :
    ∃ a : ℝ, 0 ≤ a ∧ a ≤ M ∧ Finset.univ.fold max (⊥ : EReal) (fun k => max (f k) (-(f k))) = a := by
  have hle : Finset.univ.fold max (⊥ : EReal) (fun k => max (f k) (-(f k))) ≤ (M : EReal) :=
    (Finset.fold_max_le _).2 ⟨bot_le, fun k _ => h k⟩
  have hge : (0 : EReal) ≤ Finset.univ.fold max (⊥ : EReal) (fun k => max (f k) (-(f k))) := by
    refine (Finset.le_fold_max _).2 (Or.inr ⟨0, Finset.mem_univ _, ?_⟩)
    obtain ⟨a, ha, _⟩ := real_of_abs _ M (h 0)
    rw [ha]
    rcases le_total 0 a with h0 | h0
    · exact (EReal.coe_nonneg.2 h0).trans (le_max_left _ _)
    · refine le_trans ?_ (le_max_right _ _)
      rw [← EReal.coe_neg]
      exact EReal.coe_nonneg.2 (by linarith)
  generalize Finset.univ.fold max (⊥ : EReal) (fun k => max (f k) (-(f k))) = z at hle hge
  induction z using EReal.rec with
  | bot => simp at hge
  | top => simp at hle
  | coe a => exact ⟨a, by exact_mod_cast hge, by exact_mod_cast hle, rfl⟩

/-- The largest magnitude over 448 is a real below 2^126 where the magnitudes stay within 2^120 · 255 · 23. -/
theorem max_real (f : Fin 128 → EReal) (h : ∀ k, max (f k) (-(f k)) ≤ (((2 : ℝ) ^ (120 : ℤ) * 255 * 23 : ℝ) : EReal)) :
    ∃ r : ℝ, 0 ≤ r ∧ r < (2 : ℝ) ^ (126 : ℤ)
      ∧ Finset.univ.fold max (⊥ : EReal) (fun k => max (f k) (-(f k))) * Ideal.ofBits .f32 991054117#32 = r := by
  obtain ⟨a, h0, h1, e⟩ := fold_real f _ h
  refine ⟨a * (9586981 / 4294967296), by positivity, ?_, ?_⟩
  · have h2 : (2 : ℝ) ^ (126 : ℤ) = (2 : ℝ) ^ (120 : ℤ) * 64 := by
      rw [show (126 : ℤ) = 120 + 6 by norm_num, zpow_add₀ (by norm_num)]
      norm_num
    have hp : (0 : ℝ) < (2 : ℝ) ^ (120 : ℤ) := by positivity
    rw [h2]
    nlinarith
  · rw [e, c448_eq, EReal.coe_mul]

theorem xmax_real (x : Fin 8192 → EReal) (hx : ∀ d, max (x d) (-(x d)) ≤ big) (g : Fin 64) :
    ∃ r : ℝ, 0 ≤ r ∧ r < (2 : ℝ) ^ (126 : ℤ) ∧ xmax x g = r := by
  unfold xmax
  rw [ninf16]
  refine max_real (fun k => x ⟨g.val * 128 + k.val, by omega⟩) fun k => (hx _).trans ?_
  rw [big_eq]
  refine EReal.coe_le_coe_iff.2 ?_
  have hp : (0 : ℝ) < (2 : ℝ) ^ (120 : ℤ) := by positivity
  nlinarith

/-- A square is not negative. -/
theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- A row with an infinite element is normalised to zero: its mean square is infinite. -/
theorem nrm_of_infinite (c γ : Fin 512 → EReal) (k : Fin 512) (h : c k = ⊤ ∨ c k = ⊥) (o : Fin 512) : nrm c γ o = 0 := by
  have hk : c k * c k = ⊤ := by rcases h with h | h <;> rw [h] <;> rfl
  have hs : ∑ j, c j * c j = ⊤ := by
    refine top_le_iff.1 ?_
    rw [← hk]
    exact Finset.single_le_sum (f := fun j => c j * c j) (fun j _ => sq_nonneg' (c j)) (Finset.mem_univ k)
  unfold nrm
  rw [hs, c512_eq, eps_eq]
  have hd : Ideal.div ⊤ ((512 : ℝ) : EReal) = ⊤ := by
    unfold Ideal.div
    rw [if_neg (by exact_mod_cast (by norm_num : (512 : ℝ) ≠ 0)), ← EReal.coe_inv]
    exact EReal.top_mul_coe_of_pos (by norm_num)
  rw [hd, EReal.top_add_coe]
  show c o * 0 * γ o = 0
  rw [mul_zero, zero_mul]

/-- A normalised element times gamma stays within 23 times gamma's bound. -/
theorem nrm_bound (c γ : Fin 512 → EReal) (hγ : ∀ o, max (γ o) (-(γ o)) ≤ big) (o : Fin 512) :
    max (nrm c γ o) (-(nrm c γ o)) ≤ (((2 : ℝ) ^ (120 : ℤ) * 255 * 23 : ℝ) : EReal) := by
  have hp : (0 : ℝ) < (2 : ℝ) ^ (120 : ℤ) := by positivity
  by_cases hc : ∃ k, c k = ⊤ ∨ c k = ⊥
  · obtain ⟨k, hk⟩ := hc
    rw [nrm_of_infinite c γ k hk o]
    simp only [neg_zero, max_self]
    exact EReal.coe_nonneg.2 (by positivity)
  · push Not at hc
    have hr : ∀ k, ∃ a : ℝ, c k = a := fun k => ⟨(c k).toReal, (EReal.coe_toReal (hc k).1 (hc k).2).symm⟩
    choose a ha using hr
    obtain ⟨b, hb, hbM⟩ := real_of_abs (γ o) _ ((hγ o).trans big_eq.le)
    have hs : ∑ k, c k * c k = ((∑ k, a k * a k : ℝ) : EReal) := by
      have hc : ∀ S : Finset (Fin 512), ((∑ k ∈ S, a k * a k : ℝ) : EReal) = ∑ k ∈ S, c k * c k := by
        intro S
        induction S using Finset.induction_on with
        | empty => simp
        | insert k S hk ih => rw [Finset.sum_insert hk, Finset.sum_insert hk, EReal.coe_add, ih, ha k, EReal.coe_mul]
      exact (hc _).symm
    have hnn : 0 ≤ ∑ k, a k * a k := Finset.sum_nonneg fun k _ => mul_self_nonneg _
    have hone : a o * a o ≤ ∑ k, a k * a k :=
      Finset.single_le_sum (f := fun k => a k * a k) (fun k _ => mul_self_nonneg _) (Finset.mem_univ o)
    have hd : Ideal.div ((∑ k, a k * a k : ℝ) : EReal) ((512 : ℝ) : EReal) = (((∑ k, a k * a k) / 512 : ℝ) : EReal) := by
      unfold Ideal.div
      rw [if_neg (by exact_mod_cast (by norm_num : (512 : ℝ) ≠ 0)), ← EReal.coe_inv, ← EReal.coe_mul, div_eq_mul_inv]
    unfold nrm
    rw [hs, c512_eq, eps_eq, hd, ← EReal.coe_add, ha o, hb]
    generalize (∑ k, a k * a k) = s at hnn hone
    generalize hv : s / 512 + 8796093 / 8796093022208 = v
    have hv0 : 0 < v := by rw [← hv]; positivity
    have hrs : Ideal.rsqrt (v : EReal) = (((Real.sqrt v)⁻¹ : ℝ) : EReal) := by
      show (if v < 0 then ⊥ else if v = 0 then ⊤ else (((Real.sqrt v)⁻¹ : ℝ) : EReal)) = _
      rw [if_neg hv0.not_gt, if_neg hv0.ne']
    rw [hrs, ← EReal.coe_mul, ← EReal.coe_mul, ← EReal.coe_neg, ← EReal.coe_strictMono.monotone.map_max]
    refine EReal.coe_le_coe_iff.2 ?_
    change |a o * (Real.sqrt v)⁻¹ * b| ≤ _
    have hsv : 0 < Real.sqrt v := Real.sqrt_pos.2 hv0
    have hq : |a o * (Real.sqrt v)⁻¹| ≤ 23 := by
      rw [abs_mul, abs_inv, abs_of_pos hsv, ← div_eq_mul_inv, div_le_iff₀ hsv]
      refine abs_le_of_sq_le_sq ?_ (by positivity)
      rw [mul_pow, Real.sq_sqrt hv0.le]
      nlinarith
    rw [abs_mul]
    nlinarith [abs_nonneg b, abs_nonneg (a o * (Real.sqrt v)⁻¹)]

theorem omax_real (c γ : Fin 512 → EReal) (hγ : ∀ o, max (γ o) (-(γ o)) ≤ big) (g : Fin 4) :
    ∃ r : ℝ, 0 ≤ r ∧ r < (2 : ℝ) ^ (126 : ℤ) ∧ omax (nrm c γ) g = r := by
  unfold omax
  rw [ninf32]
  exact max_real (fun k => nrm c γ ⟨g.val * 128 + k.val, by omega⟩) fun k => nrm_bound c γ hγ _

/-! ## So both programs' scales agree -/

section
variable (x : Fin 8192 → EReal) (hx : ∀ d, max (x d) (-(x d)) ≤ big)
include hx

theorem xscale_eq (g : Fin 64) : kscale (xmax x g) = rscale (xmax x g) := by
  obtain ⟨r, h0, h1, e⟩ := xmax_real x hx g
  rw [e, scale_eq r h0 h1]

theorem xinv_eq (g : Fin 64) : kinv (xmax x g) = rinv (xmax x g) := by
  obtain ⟨r, h0, h1, e⟩ := xmax_real x hx g
  rw [e, inv_eq r h0 h1]

theorem code_eq (d : Fin 8192) : code kinv x d = code rinv x d := by
  unfold code
  rw [xinv_eq x hx]

theorem deq_eq (d : Fin 8192) : deq kscale kinv x d = deq rscale rinv x d := by
  unfold deq
  rw [code_eq x hx, xscale_eq x hx]

theorem dot_eq (w s o) : dot kscale kinv x w s o = dot rscale rinv x w s o := by
  unfold dot
  exact Finset.sum_congr rfl fun d _ => congrArg (_ * ·) (deq_eq x hx d)

theorem lat_eq (w s γ) : lat kscale kinv x w s γ = lat rscale rinv x w s γ := by
  unfold lat
  exact congrArg (nrm · γ) (funext fun o => dot_eq x hx w s _)

variable (γ : Fin 512 → EReal) (hγ : ∀ o, max (γ o) (-(γ o)) ≤ big)
include hγ

theorem oscale_eq (w s g) : kscale (omax (lat kscale kinv x w s γ) g) = rscale (omax (lat rscale rinv x w s γ) g) := by
  rw [lat_eq x hx]
  obtain ⟨r, h0, h1, e⟩ := omax_real (fun o => dot rscale rinv x w s ⟨o.val, by omega⟩) γ hγ g
  unfold lat
  rw [e, scale_eq r h0 h1]

theorem ocode_eq (w s o) : ocode kinv (lat kscale kinv x w s γ) o = ocode rinv (lat rscale rinv x w s γ) o := by
  rw [lat_eq x hx]
  obtain ⟨r, h0, h1, e⟩ := omax_real (fun o => dot rscale rinv x w s ⟨o.val, by omega⟩) γ hγ ⟨o.val / 128, by omega⟩
  unfold ocode lat
  rw [e, inv_eq r h0 h1]

end

end Cert.Rows

end
-- ==== Proof.Agree.lean ====
module

public import proofs.«01_k».proof.Defs
public import proofs.«01_k».proof.Proof.KernelArrays
public import proofs.«01_k».proof.Proof.ReferenceArrays
public import proofs.«01_k».proof.Proof.Bounds

@[expose] public section

set_option maxRecDepth 16384

/-! # The two programs leave the same arrays

Where every activation and every gamma is finite. -/

noncomputable section

namespace Cert.Proof

open Idealize.ShloMosaic Idealize.ShloMosaic.TcCoe Idealize.SL.Sem
open Cert.Rows Cert.Scale

/-- The broadcasts of the precondition have the shapes that they claim. -/
instance facts_pre : Cert.Pre_finite.Facts where
  bcast_S_S8x3072x8192 := by decide
  bcast_S_S512 := by decide

/-- The precondition read at one element. -/
theorem bound_of (a : EReal) (h : Ideal.cmp .ole (max a (-a)) big = 1#1) : max a (-a) ≤ big := by
  by_contra hn
  unfold Ideal.cmp at h
  simp [hn] at h

section
variable (x : FVec Ideal Cert.Pre_finite.S8x3072x8192 .bf16) (w : FVec Ideal Cert.Pre_finite.S576x8192 .fp8e4m3)
  (s : FVec Ideal Cert.Pre_finite.S5x64 .f32) (g : FVec Ideal Cert.Pre_finite.S512 .bf16)

/-- Under the precondition every activation is at most the largest finite bf16 in magnitude. -/
theorem x_finite (h : (Cert.Pre_finite.fn x w s g).1 = fun _ => 1#1) (j) : max (x j : EReal) (-(x j : EReal)) ≤ big :=
  bound_of _ (congrFun h j)

/-- Under the precondition every gamma is at most the largest finite bf16 in magnitude. -/
theorem g_finite (h : (Cert.Pre_finite.fn x w s g).2 = fun _ => 1#1) (j) : max (g j : EReal) (-(g j : EReal)) ≤ big :=
  bound_of _ (congrFun h j)

end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hp : Cert.Pre_KernelIdeal_finite m)
  (ha : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (c : Dev Cert.KernelIdeal.nD)

include hp in
/-- The same of the activations, by rows. -/
theorem X_finite (r : Fin 24576) (d : Fin 8192) : max (Cert.KernelIdeal.Block.X m c r d) (-(Cert.KernelIdeal.Block.X m c r d)) ≤ big :=
  x_finite _ _ _ _ (hp c).1 _

include hp in
/-- The same of gamma, by its coordinate. -/
theorem Γ_finite (o : Fin 512) : max (Cert.KernelIdeal.Block.Γ m c o) (-(Cert.KernelIdeal.Block.Γ m c o)) ≤ big :=
  g_finite _ _ _ _ (hp c).2 _

include ha

/-- Where the arguments agree, both programs read the same rows of activations, -/
theorem X_eq : Cert.ReferenceIdeal.Block.X m' c = Cert.KernelIdeal.Block.X m c := by
  unfold Cert.ReferenceIdeal.Block.X
  rw [(ha c).1]
  rfl

/-- the same weight codes, -/
theorem W_eq : Cert.ReferenceIdeal.Block.W m' c = Cert.KernelIdeal.Block.W m c := by
  unfold Cert.ReferenceIdeal.Block.W
  rw [(ha c).2.1]
  rfl

/-- the same weight scales, -/
theorem S_eq : Cert.ReferenceIdeal.Block.S m' c = Cert.KernelIdeal.Block.S m c := by
  unfold Cert.ReferenceIdeal.Block.S
  rw [(ha c).2.2.1]
  rfl

/-- and the same gamma. -/
theorem Γ_eq : Cert.ReferenceIdeal.Block.Γ m' c = Cert.KernelIdeal.Block.Γ m c := by
  unfold Cert.ReferenceIdeal.Block.Γ
  rw [(ha c).2.2.2]
  rfl

include hp

/-- The codes of the normalised latents agree. -/
theorem agree4 : Cert.ReferenceIdeal.Block.G4 m' c = Cert.KernelIdeal.Value.G4 m c := by
  rw [Cert.KernelIdeal.Block.final4]
  unfold Cert.ReferenceIdeal.Block.G4
  rw [X_eq m m' ha c, W_eq m m' ha c, S_eq m m' ha c, Γ_eq m m' ha c]
  exact funext fun i => (ocode_eq _ (X_finite m hp c _) _ (Γ_finite m hp c) _ _ _).symm

/-- The scales of the normalised latents agree. -/
theorem agree5 : Cert.ReferenceIdeal.Block.G5 m' c = Cert.KernelIdeal.Value.G5 m c := by
  rw [Cert.KernelIdeal.Block.final5]
  unfold Cert.ReferenceIdeal.Block.G5
  rw [X_eq m m' ha c, W_eq m m' ha c, S_eq m m' ha c, Γ_eq m m' ha c]
  exact funext fun i => (oscale_eq _ (X_finite m hp c _) _ (Γ_finite m hp c) _ _ _).symm

/-- The rotary columns agree. -/
theorem agree6 : Cert.ReferenceIdeal.Block.G6 m' c = Cert.KernelIdeal.Value.G6 m c := by
  rw [Cert.KernelIdeal.Block.final6]
  unfold Cert.ReferenceIdeal.Block.G6
  rw [X_eq m m' ha c, W_eq m m' ha c, S_eq m m' ha c]
  exact funext fun i => (dot_eq _ (X_finite m hp c _) _ _ _).symm

/-- The codes of the activations agree. -/
theorem agree7 : Cert.ReferenceIdeal.Block.G7 m' c = Cert.KernelIdeal.Value.G7 m c := by
  rw [Cert.KernelIdeal.Block.final7]
  unfold Cert.ReferenceIdeal.Block.G7
  rw [X_eq m m' ha c]
  exact funext fun i => (code_eq _ (X_finite m hp c _) _).symm

/-- The scales of the activations agree. -/
theorem agree8 : Cert.ReferenceIdeal.Block.G8 m' c = Cert.KernelIdeal.Value.G8 m c := by
  rw [Cert.KernelIdeal.Block.final8]
  unfold Cert.ReferenceIdeal.Block.G8
  rw [X_eq m m' ha c]
  exact funext fun i => (xscale_eq _ (X_finite m hp c _) _).symm

end

/-- From finite activations and gamma, the kernel and the reference leave the same five arrays, over the extended reals. -/
theorem algebraic : Cert.algebraic_KernelIdeal_ReferenceIdeal_pre_finite := by
  intro m g m' g' hp ha
  refine ⟨Cert.KernelIdeal.Value.G4 m, Cert.KernelIdeal.Value.G5 m, Cert.KernelIdeal.Value.G6 m, Cert.KernelIdeal.Value.G7 m,
    Cert.KernelIdeal.Value.G8 m, Cert.KernelIdeal.Value.run m g, ?_⟩
  refine (θ_run Cert.ReferenceIdeal.defs _ _).mono (fun r h c => ?_) (Cert.ReferenceIdeal.Block.run m' g')
  obtain ⟨h0, h1, h2, h3, h4, h5⟩ := h c
  exact ⟨h0.trans (agree4 m m' hp ha c), h1.trans (agree5 m m' hp ha c), h2.trans (agree6 m m' hp ha c),
    h3.trans (agree7 m m' hp ha c), h4.trans (agree8 m m' hp ha c), h5⟩

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Agree

@[expose] public section

/-! # The certificate

The frames are the generated ones, the ideal pass rewrote nothing, and `Cert.Proof.algebraic` is the agreement of the kernel
and the reference over the extended reals. -/

theorem Cert.Proof.claim : Cert.Claim :=
  ⟨Cert.Kernel.Gen.facts, Cert.KernelIdeal.Gen.facts, Cert.ReferenceIdeal.Gen.facts, Cert.Proof.facts_pre,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    Cert.Proof.algebraic⟩
